-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binned [hPre_binned : Cert.Pre_binned.Facts] (m : (ℓ : Loc Cert.KernelIdeal.nD Cert.KernelIdeal.τ Cert.KernelIdeal.sig) → Buf (Elt Ideal) ℓ) : Prop :=
  ∀ c : Dev Cert.KernelIdeal.nD,
    (Cert.Pre_binned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_binned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_binned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binned [hPre_binned : Cert.Pre_binned.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_binned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_binned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_binned [hKernelIdeal : Cert.KernelIdeal.Facts] [hPre_binned : Cert.Pre_binned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binned m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_binned [hReferenceIdeal : Cert.ReferenceIdeal.Facts] [hPre_binned : Cert.Pre_binned.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binned m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_binned [hKernelIdeal : Cert.KernelIdeal.Facts] [hReferenceIdeal : Cert.ReferenceIdeal.Facts] [hPre_binned : Cert.Pre_binned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binned m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_binned : Cert.Pre_binned.Facts),
    quiescent_Kernel (hKernel := hKernel)
    ∧ quiescent_KernelIdeal (hKernelIdeal := hKernelIdeal)
    ∧ quiescent_KernelIdeal_pre_binned (hKernelIdeal := hKernelIdeal) (hPre_binned := hPre_binned)
    ∧ quiescent_ReferenceIdeal (hReferenceIdeal := hReferenceIdeal)
    ∧ quiescent_ReferenceIdeal_pre_binned (hReferenceIdeal := hReferenceIdeal) (hPre_binned := hPre_binned)
    ∧ preserves_Kernel_KernelIdeal
    ∧ algebraic_KernelIdeal_ReferenceIdeal_pre_binned (hKernelIdeal := hKernelIdeal) (hReferenceIdeal := hReferenceIdeal) (hPre_binned := hPre_binned)
-- ==== Pre_binned.lean ====
abbrev S2097152 : Shape := ⟨1, ![2097152]⟩
abbrev S8x9 : Shape := ⟨2, ![8, 9]⟩
abbrev S_ : Shape := ⟨0, ![]⟩
abbrev S8x8 : Shape := ⟨2, ![8, 8]⟩

class Facts : Prop where
  bcast_S_S2097152 : S_.BroadcastsInDim S2097152 (![] : Fin 0 → Fin S2097152.rank)
  slices_S8x9_S8x8_0_0 : S8x9.Slices ![0, 0] S8x8
  slices_S8x9_S8x8_0_1 : S8x9.Slices ![0, 1] S8x8
  bcast_S_S8x9 : S_.BroadcastsInDim S8x9 (![] : Fin 0 → Fin S8x9.rank)

variable [Facts]

def fn {F : FTy → Type} [FloatOps F] (main_arg0 : FVec F S2097152 .f32) (main_arg1 : FVec F S8x9 .f32) (main_arg2 : FVec F S8x9 .f32) : IVec S2097152 1 × IVec S8x8 1 × IVec S8x9 1 :=
  let main_cst : FVec F S_ .f32 := constant S_ .f32 0xBF800000#32
  let main_v0 : FVec F S2097152 .f32 := broadcastInDim S2097152 ![] bcast_S_S2097152 main_cst
  let main_v1 : IVec S2097152 1 := cmpf .ogt main_arg0 main_v0
  let main_v2 : FVec F S8x8 .f32 := (extractStridedSlice S8x8 ![0, 0] · slices_S8x9_S8x8_0_0) main_arg1
  let main_v3 : FVec F S8x8 .f32 := (extractStridedSlice S8x8 ![0, 1] · slices_S8x9_S8x8_0_1) main_arg1
  let main_v4 : IVec S8x8 1 := cmpf .ole main_v2 main_v3
  let main_v5 : FVec F S8x9 .f32 := Host.absf main_arg2
  let main_cst_0 : FVec F S_ .f32 := constant S_ .f32 0x7F800000#32
  let main_v6 : FVec F S8x9 .f32 := broadcastInDim S8x9 ![] bcast_S_S8x9 main_cst_0
  let main_v7 : IVec S8x9 1 := cmpf .olt main_v5 main_v6
  (main_v1, main_v4, main_v7)
-- ==== Kernel.lean ====
abbrev S2097152 : Shape := ⟨1, ![2097152]⟩
abbrev S8x9 : Shape := ⟨2, ![8, 9]⟩
abbrev S8x1 : Shape := ⟨2, ![8, 1]⟩
abbrev S8 : Shape := ⟨1, ![8]⟩
abbrev S8x8 : Shape := ⟨2, ![8, 8]⟩
abbrev S8x10 : Shape := ⟨2, ![8, 10]⟩
abbrev S_ : Shape := ⟨0, ![]⟩
abbrev S8x10x1 : Shape := ⟨3, ![8, 10, 1]⟩
abbrev S8x10x16 : Shape := ⟨3, ![8, 10, 16]⟩
abbrev S8x2097152 : Shape := ⟨2, ![8, 2097152]⟩
abbrev S8192 : Shape := ⟨1, ![8192]⟩
abbrev S8x8192 : Shape := ⟨2, ![8, 8192]⟩
abbrev S1x1x16 : Shape := ⟨3, ![1, 1, 16]⟩
abbrev S16 : Shape := ⟨1, ![16]⟩
abbrev S1x16 : Shape := ⟨2, ![1, 16]⟩
abbrev S1x8192 : Shape := ⟨2, ![1, 8192]⟩
abbrev S8x2097152x1 : Shape := ⟨3, ![8, 2097152, 1]⟩

abbrev nBuf : Table → Nat
  | .hbm => 23
  | .local .scVector .vmem => 4
  | _ => 0

abbrev bufTy : (tb : Table) → Fin (nBuf tb) → BufTy
  | .hbm, ⟨0, _⟩ => ⟨S2097152, .f32⟩
  | .hbm, ⟨1, _⟩ => ⟨S8x9, .f32⟩
  | .hbm, ⟨2, _⟩ => ⟨S8x9, .f32⟩
  | .hbm, ⟨3, _⟩ => ⟨S8x1, .f32⟩
  | .hbm, ⟨4, _⟩ => ⟨S8, .f32⟩
  | .hbm, ⟨5, _⟩ => ⟨S8x1, .f32⟩
  | .hbm, ⟨6, _⟩ => ⟨S8, .f32⟩
  | .hbm, ⟨7, _⟩ => ⟨S8, .f32⟩
  | .hbm, ⟨8, _⟩ => ⟨S8x8, .f32⟩
  | .hbm, ⟨9, _⟩ => ⟨S8x8, .f32⟩
  | .hbm, ⟨10, _⟩ => ⟨S8x8, .f32⟩
  | .hbm, ⟨11, _⟩ => ⟨S8x1, .f32⟩
  | .hbm, ⟨12, _⟩ => ⟨S8x1, .f32⟩
  | .hbm, ⟨13, _⟩ => ⟨S8x10, .f32⟩
  | .hbm, ⟨14, _⟩ => ⟨S_, .f32⟩
  | .hbm, ⟨15, _⟩ => ⟨S8x1, .f32⟩
  | .hbm, ⟨16, _⟩ => ⟨S8x10, .f32⟩
  | .hbm, ⟨17, _⟩ => ⟨S8x10x1, .f32⟩
  | .hbm, ⟨18, _⟩ => ⟨S8x10x16, .f32⟩
  | .hbm, ⟨19, _⟩ => ⟨S8x10x1, .f32⟩
  | .hbm, ⟨20, _⟩ => ⟨S8x10x16, .f32⟩
  | .hbm, ⟨21, _⟩ => ⟨S8x2097152, .f32⟩
  | .hbm, ⟨22, _⟩ => ⟨S8x2097152x1, .f32⟩
  | .local .scVector .vmem, ⟨0, _⟩ => ⟨S8192, .f32⟩
  | .local .scVector .vmem, ⟨1, _⟩ => ⟨S8x8192, .f32⟩
  | .local .scVector .vmem, ⟨2, _⟩ => ⟨S8x10x16, .f32⟩
  | .local .scVector .vmem, ⟨3, _⟩ => ⟨S8x10x16, .f32⟩
  | _, _ => ⟨S2097152, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_arg0_scv : Ref sig .scVector := ⟨.hbm, 0, rfl⟩
abbrev main_v14_scv : Ref sig .scVector := ⟨.hbm, 18, rfl⟩
abbrev main_v16_scv : Ref sig .scVector := ⟨.hbm, 20, rfl⟩
abbrev main_v17_scv : Ref sig .scVector := ⟨.hbm, 21, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_0 : BitVec 32 := 0#32
  let c1_i32 : BitVec 32 := 1#32
  let arg10 : BitVec 32 := Scf.iv c0_i32_0 c1_i32 k0_t1
  let c8192_i32 : BitVec 32 := 8192#32
  let v4 : BitVec 32 := Scalar.muli arg10 c8192_i32
  let v5 : BitVec 32 := Scalar.addi v2 v4
  ![v5.toNat]
@[reducible] def k0_t2_loop : Scf.Loop 32 :=
  let c0_i32_55 : BitVec 32 := 0#32
  let c512_i32 : BitVec 32 := 512#32
  let v86 : BitVec 32 := Scalar.addi c0_i32_55 c512_i32
  let c1_i32_56 : BitVec 32 := 1#32
  ⟨c0_i32_55, v86, c1_i32_56⟩
def k0_off2 (k0_t2 : Fin k0_t2_loop.trips) : Fin 1 → Nat :=
  let c0_i32_523 : BitVec 32 := 0#32
  let c0_i32_55 : BitVec 32 := 0#32
  let c1_i32_56 : BitVec 32 := 1#32
  let arg11 : BitVec 32 := Scf.iv c0_i32_55 c1_i32_56 k0_t2
  let c1_i32_522 : BitVec 32 := 1#32
  let v654 : BitVec 32 := Scalar.muli arg11 c1_i32_522
  let v655 : BitVec 32 := Scalar.addi c0_i32_523 v654
  let c16_i32 : BitVec 32 := 16#32
  let v656 : BitVec 32 := Scalar.muli v655 c16_i32
  let v657 : Index := Scalar.indexCast v656
  ![v657.toNat]
def k0_off3 (k0_t2 : Fin k0_t2_loop.trips) : Fin 2 → Nat :=
  let c0_i32_526 : BitVec 32 := 0#32
  let v694 : Index := Scalar.indexCast c0_i32_526
  let c0_i32_523 : BitVec 32 := 0#32
  let c0_i32_55 : BitVec 32 := 0#32
  let c1_i32_56 : BitVec 32 := 1#32
  let arg11 : BitVec 32 := Scf.iv c0_i32_55 c1_i32_56 k0_t2
  let c1_i32_522 : BitVec 32 := 1#32
  let v654 : BitVec 32 := Scalar.muli arg11 c1_i32_522
  let v655 : BitVec 32 := Scalar.addi c0_i32_523 v654
  let c16_i32_525 : BitVec 32 := 16#32
  let v693 : BitVec 32 := Scalar.muli v655 c16_i32_525
  let v695 : Index := Scalar.indexCast v693
  ![0, v695.toNat]
@[reducible] def k0_t3_loop : Scf.Loop 32 :=
  let c0_i32_118 : BitVec 32 := 0#32
  let c512_i32_119 : BitVec 32 := 512#32
  let v167 : BitVec 32 := Scalar.addi c0_i32_118 c512_i32_119
  let c1_i32_120 : BitVec 32 := 1#32
  ⟨c0_i32_118, v167, c1_i32_120⟩
def k0_off4 (k0_t3 : Fin k0_t3_loop.trips) : Fin 1 → Nat :=
  let c0_i32_523 : BitVec 32 := 0#32
  let c0_i32_118 : BitVec 32 := 0#32
  let c1_i32_120 : BitVec 32 := 1#32
  let arg11 : BitVec 32 := Scf.iv c0_i32_118 c1_i32_120 k0_t3
  let c1_i32_522 : BitVec 32 := 1#32
  let v654 : BitVec 32 := Scalar.muli arg11 c1_i32_522
  let v655 : BitVec 32 := Scalar.addi c0_i32_523 v654
  let c16_i32 : BitVec 32 := 16#32
  let v656 : BitVec 32 := Scalar.muli v655 c16_i32
  let v657 : Index := Scalar.indexCast v656
  ![v657.toNat]
def k0_off5 (k0_t3 : Fin k0_t3_loop.trips) : Fin 2 → Nat :=
  let c1_i32_526 : BitVec 32 := 1#32
  let v694 : Index := Scalar.indexCast c1_i32_526
  let c0_i32_523 : BitVec 32 := 0#32
  let c0_i32_118 : BitVec 32 := 0#32
  let c1_i32_120 : BitVec 32 := 1#32
  let arg11 : BitVec 32 := Scf.iv c0_i32_118 c1_i32_120 k0_t3
  let c1_i32_522 : BitVec 32 := 1#32
  let v654 : BitVec 32 := Scalar.muli arg11 c1_i32_522
  let v655 : BitVec 32 := Scalar.addi c0_i32_523 v654
  let c16_i32_525 : BitVec 32 := 16#32
  let v693 : BitVec 32 := Scalar.muli v655 c16_i32_525
  let v695 : Index := Scalar.indexCast v693
  ![1, v695.toNat]
@[reducible] def k0_t4_loop : Scf.Loop 32 :=
  let c0_i32_182 : BitVec 32 := 0#32
  let c512_i32_183 : BitVec 32 := 512#32
  let v248 : BitVec 32 := Scalar.addi c0_i32_182 c512_i32_183
  let c1_i32_184 : BitVec 32 := 1#32
  ⟨c0_i32_182, v248, c1_i32_184⟩
def k0_off6 (k0_t4 : Fin k0_t4_loop.trips) : Fin 1 → Nat :=
  let c0_i32_523 : BitVec 32 := 0#32
  let c0_i32_182 : BitVec 32 := 0#32
  let c1_i32_184 : BitVec 32 := 1#32
  let arg11 : BitVec 32 := Scf.iv c0_i32_182 c1_i32_184 k0_t4
  let c1_i32_522 : BitVec 32 := 1#32
  let v654 : BitVec 32 := Scalar.muli arg11 c1_i32_522
  let v655 : BitVec 32 := Scalar.addi c0_i32_523 v654
  let c16_i32 : BitVec 32 := 16#32
  let v656 : BitVec 32 := Scalar.muli v655 c16_i32
  let v657 : Index := Scalar.indexCast v656
  ![v657.toNat]
def k0_off7 (k0_t4 : Fin k0_t4_loop.trips) : Fin 2 → Nat :=
  let c2_i32_526 : BitVec 32 := 2#32
  let v694 : Index := Scalar.indexCast c2_i32_526
  let c0_i32_523 : BitVec 32 := 0#32
  let c0_i32_182 : BitVec 32 := 0#32
  let c1_i32_184 : BitVec 32 := 1#32
  let arg11 : BitVec 32 := Scf.iv c0_i32_182 c1_i32_184 k0_t4
  let c1_i32_522 : BitVec 32 := 1#32
  let v654 : BitVec 32 := Scalar.muli arg11 c1_i32_522
  let v655 : BitVec 32 := Scalar.addi c0_i32_523 v654
  let c16_i32_525 : BitVec 32 := 16#32
  let v693 : BitVec 32 := Scalar.muli v655 c16_i32_525
  let v695 : Index := Scalar.indexCast v693
  ![2, v695.toNat]
@[reducible] def k0_t5_loop : Scf.Loop 32 :=
  let c0_i32_246 : BitVec 32 := 0#32
  let c512_i32_247 : BitVec 32 := 512#32
  let v329 : BitVec 32 := Scalar.addi c0_i32_246 c512_i32_247
  let c1_i32_248 : BitVec 32 := 1#32
  ⟨c0_i32_246, v329, c1_i32_248⟩
def k0_off8 (k0_t5 : Fin k0_t5_loop.trips) : Fin 1 → Nat :=
  let c0_i32_523 : BitVec 32 := 0#32
  let c0_i32_246 : BitVec 32 := 0#32
  let c1_i32_248 : BitVec 32 := 1#32
  let arg11 : BitVec 32 := Scf.iv c0_i32_246 c1_i32_248 k0_t5
  let c1_i32_522 : BitVec 32 := 1#32
  let v654 : BitVec 32 := Scalar.muli arg11 c1_i32_522
  let v655 : BitVec 32 := Scalar.addi c0_i32_523 v654
  let c16_i32 : BitVec 32 := 16#32
  let v656 : BitVec 32 := Scalar.muli v655 c16_i32
  let v657 : Index := Scalar.indexCast v656
  ![v657.toNat]
def k0_off9 (k0_t5 : Fin k0_t5_loop.trips) : Fin 2 → Nat :=
  let c3_i32_526 : BitVec 32 := 3#32
  let v694 : Index := Scalar.indexCast c3_i32_526
  let c0_i32_523 : BitVec 32 := 0#32
  let c0_i32_246 : BitVec 32 := 0#32
  let c1_i32_248 : BitVec 32 := 1#32
  let arg11 : BitVec 32 := Scf.iv c0_i32_246 c1_i32_248 k0_t5
  let c1_i32_522 : BitVec 32 := 1#32
  let v654 : BitVec 32 := Scalar.muli arg11 c1_i32_522
  let v655 : BitVec 32 := Scalar.addi c0_i32_523 v654
  let c16_i32_525 : BitVec 32 := 16#32
  let v693 : BitVec 32 := Scalar.muli v655 c16_i32_525
  let v695 : Index := Scalar.indexCast v693
  ![3, v695.toNat]
@[reducible] def k0_t6_loop : Scf.Loop 32 :=
  let c0_i32_310 : BitVec 32 := 0#32
  let c512_i32_311 : BitVec 32 := 512#32
  let v410 : BitVec 32 := Scalar.addi c0_i32_310 c512_i32_311
  let c1_i32_312 : BitVec 32 := 1#32
  ⟨c0_i32_310, v410, c1_i32_312⟩
def k0_off10 (k0_t6 : Fin k0_t6_loop.trips) : Fin 1 → Nat :=
  let c0_i32_523 : BitVec 32 := 0#32
  let c0_i32_310 : BitVec 32 := 0#32
  let c1_i32_312 : BitVec 32 := 1#32
  let arg11 : BitVec 32 := Scf.iv c0_i32_310 c1_i32_312 k0_t6
  let c1_i32_522 : BitVec 32 := 1#32
  let v654 : BitVec 32 := Scalar.muli arg11 c1_i32_522
  let v655 : BitVec 32 := Scalar.addi c0_i32_523 v654
  let c16_i32 : BitVec 32 := 16#32
  let v656 : BitVec 32 := Scalar.muli v655 c16_i32
  let v657 : Index := Scalar.indexCast v656
  ![v657.toNat]
def k0_off11 (k0_t6 : Fin k0_t6_loop.trips) : Fin 2 → Nat :=
  let c4_i32_526 : BitVec 32 := 4#32
  let v694 : Index := Scalar.indexCast c4_i32_526
  let c0_i32_523 : BitVec 32 := 0#32
  let c0_i32_310 : BitVec 32 := 0#32
  let c1_i32_312 : BitVec 32 := 1#32
  let arg11 : BitVec 32 := Scf.iv c0_i32_310 c1_i32_312 k0_t6
  let c1_i32_522 : BitVec 32 := 1#32
  let v654 : BitVec 32 := Scalar.muli arg11 c1_i32_522
  let v655 : BitVec 32 := Scalar.addi c0_i32_523 v654
  let c16_i32_525 : BitVec 32 := 16#32
  let v693 : BitVec 32 := Scalar.muli v655 c16_i32_525
  let v695 : Index := Scalar.indexCast v693
  ![4, v695.toNat]
@[reducible] def k0_t7_loop : Scf.Loop 32 :=
  let c0_i32_374 : BitVec 32 := 0#32
  let c512_i32_375 : BitVec 32 := 512#32
  let v491 : BitVec 32 := Scalar.addi c0_i32_374 c512_i32_375
  let c1_i32_376 : BitVec 32 := 1#32
  ⟨c0_i32_374, v491, c1_i32_376⟩
def k0_off12 (k0_t7 : Fin k0_t7_loop.trips) : Fin 1 → Nat :=
  let c0_i32_523 : BitVec 32 := 0#32
  let c0_i32_374 : BitVec 32 := 0#32
  let c1_i32_376 : BitVec 32 := 1#32
  let arg11 : BitVec 32 := Scf.iv c0_i32_374 c1_i32_376 k0_t7
  let c1_i32_522 : BitVec 32 := 1#32
  let v654 : BitVec 32 := Scalar.muli arg11 c1_i32_522
  let v655 : BitVec 32 := Scalar.addi c0_i32_523 v654
  let c16_i32 : BitVec 32 := 16#32
  let v656 : BitVec 32 := Scalar.muli v655 c16_i32
  let v657 : Index := Scalar.indexCast v656
  ![v657.toNat]
def k0_off13 (k0_t7 : Fin k0_t7_loop.trips) : Fin 2 → Nat :=
  let c5_i32_526 : BitVec 32 := 5#32
  let v694 : Index := Scalar.indexCast c5_i32_526
  let c0_i32_523 : BitVec 32 := 0#32
  let c0_i32_374 : BitVec 32 := 0#32
  let c1_i32_376 : BitVec 32 := 1#32
  let arg11 : BitVec 32 := Scf.iv c0_i32_374 c1_i32_376 k0_t7
  let c1_i32_522 : BitVec 32 := 1#32
  let v654 : BitVec 32 := Scalar.muli arg11 c1_i32_522
  let v655 : BitVec 32 := Scalar.addi c0_i32_523 v654
  let c16_i32_525 : BitVec 32 := 16#32
  let v693 : BitVec 32 := Scalar.muli v655 c16_i32_525
  let v695 : Index := Scalar.indexCast v693
  ![5, v695.toNat]
@[reducible] def k0_t8_loop : Scf.Loop 32 :=
  let c0_i32_438 : BitVec 32 := 0#32
  let c512_i32_439 : BitVec 32 := 512#32
  let v572 : BitVec 32 := Scalar.addi c0_i32_438 c512_i32_439
  let c1_i32_440 : BitVec 32 := 1#32
  ⟨c0_i32_438, v572, c1_i32_440⟩
def k0_off14 (k0_t8 : Fin k0_t8_loop.trips) : Fin 1 → Nat :=
  let c0_i32_523 : BitVec 32 := 0#32
  let c0_i32_438 : BitVec 32 := 0#32
  let c1_i32_440 : BitVec 32 := 1#32
  let arg11 : BitVec 32 := Scf.iv c0_i32_438 c1_i32_440 k0_t8
  let c1_i32_522 : BitVec 32 := 1#32
  let v654 : BitVec 32 := Scalar.muli arg11 c1_i32_522
  let v655 : BitVec 32 := Scalar.addi c0_i32_523 v654
  let c16_i32 : BitVec 32 := 16#32
  let v656 : BitVec 32 := Scalar.muli v655 c16_i32
  let v657 : Index := Scalar.indexCast v656
  ![v657.toNat]
def k0_off15 (k0_t8 : Fin k0_t8_loop.trips) : Fin 2 → Nat :=
  let c6_i32_526 : BitVec 32 := 6#32
  let v694 : Index := Scalar.indexCast c6_i32_526
  let c0_i32_523 : BitVec 32 := 0#32
  let c0_i32_438 : BitVec 32 := 0#32
  let c1_i32_440 : BitVec 32 := 1#32
  let arg11 : BitVec 32 := Scf.iv c0_i32_438 c1_i32_440 k0_t8
  let c1_i32_522 : BitVec 32 := 1#32
  let v654 : BitVec 32 := Scalar.muli arg11 c1_i32_522
  let v655 : BitVec 32 := Scalar.addi c0_i32_523 v654
  let c16_i32_525 : BitVec 32 := 16#32
  let v693 : BitVec 32 := Scalar.muli v655 c16_i32_525
  let v695 : Index := Scalar.indexCast v693
  ![6, v695.toNat]
@[reducible] def k0_t9_loop : Scf.Loop 32 :=
  let c0_i32_502 : BitVec 32 := 0#32
  let c512_i32_503 : BitVec 32 := 512#32
  let v653 : BitVec 32 := Scalar.addi c0_i32_502 c512_i32_503
  let c1_i32_504 : BitVec 32 := 1#32
  ⟨c0_i32_502, v653, c1_i32_504⟩
def k0_off16 (k0_t9 : Fin k0_t9_loop.trips) : Fin 1 → Nat :=
  let c0_i32_523 : BitVec 32 := 0#32
  let c0_i32_502 : BitVec 32 := 0#32
  let c1_i32_504 : BitVec 32 := 1#32
  let arg11 : BitVec 32 := Scf.iv c0_i32_502 c1_i32_504 k0_t9
  let c1_i32_522 : BitVec 32 := 1#32
  let v654 : BitVec 32 := Scalar.muli arg11 c1_i32_522
  let v655 : BitVec 32 := Scalar.addi c0_i32_523 v654
  let c16_i32 : BitVec 32 := 16#32
  let v656 : BitVec 32 := Scalar.muli v655 c16_i32
  let v657 : Index := Scalar.indexCast v656
  ![v657.toNat]
def k0_off17 (k0_t9 : Fin k0_t9_loop.trips) : Fin 2 → Nat :=
  let c7_i32_526 : BitVec 32 := 7#32
  let v694 : Index := Scalar.indexCast c7_i32_526
  let c0_i32_523 : BitVec 32 := 0#32
  let c0_i32_502 : BitVec 32 := 0#32
  let c1_i32_504 : BitVec 32 := 1#32
  let arg11 : BitVec 32 := Scf.iv c0_i32_502 c1_i32_504 k0_t9
  let c1_i32_522 : BitVec 32 := 1#32
  let v654 : BitVec 32 := Scalar.muli arg11 c1_i32_522
  let v655 : BitVec 32 := Scalar.addi c0_i32_523 v654
  let c16_i32_525 : BitVec 32 := 16#32
  let v693 : BitVec 32 := Scalar.muli v655 c16_i32_525
  let v695 : Index := Scalar.indexCast v693
  ![7, v695.toNat]
def k0_off18 (i : grid0.Coords) (k0_t1 : Fin k0_t1_loop.trips) : Fin 2 → Nat :=
  let c0_i32_507 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_0 : BitVec 32 := 0#32
  let c1_i32 : BitVec 32 := 1#32
  let arg10 : BitVec 32 := Scf.iv c0_i32_0 c1_i32 k0_t1
  let c8192_i32 : BitVec 32 := 8192#32
  let v4 : BitVec 32 := Scalar.muli arg10 c8192_i32
  let v5 : BitVec 32 := Scalar.addi v2 v4
  ![0, v5.toNat]
def k0_off19 (i : grid0.Coords) (k0_t1 : Fin k0_t1_loop.trips) : Fin 2 → Nat :=
  let c1_i32_509 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_0 : BitVec 32 := 0#32
  let c1_i32 : BitVec 32 := 1#32
  let arg10 : BitVec 32 := Scf.iv c0_i32_0 c1_i32 k0_t1
  let c8192_i32 : BitVec 32 := 8192#32
  let v4 : BitVec 32 := Scalar.muli arg10 c8192_i32
  let v5 : BitVec 32 := Scalar.addi v2 v4
  ![1, v5.toNat]
def k0_off20 (i : grid0.Coords) (k0_t1 : Fin k0_t1_loop.trips) : Fin 2 → Nat :=
  let c2_i32_511 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_0 : BitVec 32 := 0#32
  let c1_i32 : BitVec 32 := 1#32
  let arg10 : BitVec 32 := Scf.iv c0_i32_0 c1_i32 k0_t1
  let c8192_i32 : BitVec 32 := 8192#32
  let v4 : BitVec 32 := Scalar.muli arg10 c8192_i32
  let v5 : BitVec 32 := Scalar.addi v2 v4
  ![2, v5.toNat]
def k0_off21 (i : grid0.Coords) (k0_t1 : Fin k0_t1_loop.trips) : Fin 2 → Nat :=
  let c3_i32_513 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_0 : BitVec 32 := 0#32
  let c1_i32 : BitVec 32 := 1#32
  let arg10 : BitVec 32 := Scf.iv c0_i32_0 c1_i32 k0_t1
  let c8192_i32 : BitVec 32 := 8192#32
  let v4 : BitVec 32 := Scalar.muli arg10 c8192_i32
  let v5 : BitVec 32 := Scalar.addi v2 v4
  ![3, v5.toNat]
def k0_off22 (i : grid0.Coords) (k0_t1 : Fin k0_t1_loop.trips) : Fin 2 → Nat :=
  let c4_i32_515 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_0 : BitVec 32 := 0#32
  let c1_i32 : BitVec 32 := 1#32
  let arg10 : BitVec 32 := Scf.iv c0_i32_0 c1_i32 k0_t1
  let c8192_i32 : BitVec 32 := 8192#32
  let v4 : BitVec 32 := Scalar.muli arg10 c8192_i32
  let v5 : BitVec 32 := Scalar.addi v2 v4
  ![4, v5.toNat]
def k0_off23 (i : grid0.Coords) (k0_t1 : Fin k0_t1_loop.trips) : Fin 2 → Nat :=
  let c5_i32_517 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_0 : BitVec 32 := 0#32
  let c1_i32 : BitVec 32 := 1#32
  let arg10 : BitVec 32 := Scf.iv c0_i32_0 c1_i32 k0_t1
  let c8192_i32 : BitVec 32 := 8192#32
  let v4 : BitVec 32 := Scalar.muli arg10 c8192_i32
  let v5 : BitVec 32 := Scalar.addi v2 v4
  ![5, v5.toNat]
def k0_off24 (i : grid0.Coords) (k0_t1 : Fin k0_t1_loop.trips) : Fin 2 → Nat :=
  let c6_i32_519 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_0 : BitVec 32 := 0#32
  let c1_i32 : BitVec 32 := 1#32
  let arg10 : BitVec 32 := Scf.iv c0_i32_0 c1_i32 k0_t1
  let c8192_i32 : BitVec 32 := 8192#32
  let v4 : BitVec 32 := Scalar.muli arg10 c8192_i32
  let v5 : BitVec 32 := Scalar.addi v2 v4
  ![6, v5.toNat]
def k0_off25 (i : grid0.Coords) (k0_t1 : Fin k0_t1_loop.trips) : Fin 2 → Nat :=
  let c7_i32_521 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_0 : BitVec 32 := 0#32
  let c1_i32 : BitVec 32 := 1#32
  let arg10 : BitVec 32 := Scf.iv c0_i32_0 c1_i32 k0_t1
  let c8192_i32 : BitVec 32 := 8192#32
  let v4 : BitVec 32 := Scalar.muli arg10 c8192_i32
  let v5 : BitVec 32 := Scalar.addi v2 v4
  ![7, v5.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2097152 : Shape := ⟨1, ![2097152]⟩
abbrev S8x9 : Shape := ⟨2, ![8, 9]⟩
abbrev S1x2097152x1 : Shape := ⟨3, ![1, 2097152, 1]⟩
abbrev S8x1x9 : Shape := ⟨3, ![8, 1, 9]⟩
abbrev S8x2097152x9 : Shape := ⟨3, ![8, 2097152, 9]⟩
abbrev S_ : Shape := ⟨0, ![]⟩
abbrev S8x2097152 : Shape := ⟨2, ![8, 2097152]⟩
abbrev S8x2097152x1 : Shape := ⟨3, ![8, 2097152, 1]⟩
abbrev S1 : Shape := ⟨1, ![1]⟩
abbrev S1x1x1 : Shape := ⟨3, ![1, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S2097152, .f32⟩
  | .hbm, ⟨1, _⟩ => ⟨S8x9, .f32⟩
  | .hbm, ⟨2, _⟩ => ⟨S8x9, .f32⟩
  | .hbm, ⟨3, _⟩ => ⟨S1x2097152x1, .f32⟩
  | .hbm, ⟨4, _⟩ => ⟨S8x1x9, .f32⟩
  | .hbm, ⟨5, _⟩ => ⟨S8x2097152x9, .f32⟩
  | .hbm, ⟨6, _⟩ => ⟨S8x2097152x9, .f32⟩
  | .hbm, ⟨7, _⟩ => ⟨S8x2097152x9, .i1⟩
  | .hbm, ⟨8, _⟩ => ⟨S8x2097152x9, .i32⟩
  | .hbm, ⟨9, _⟩ => ⟨S_, .i32⟩
  | .hbm, ⟨10, _⟩ => ⟨S8x2097152, .i32⟩
  | .hbm, ⟨11, _⟩ => ⟨S_, .i32⟩
  | .hbm, ⟨12, _⟩ => ⟨S8x2097152, .i32⟩
  | .hbm, ⟨13, _⟩ => ⟨S8x2097152, .i32⟩
  | .hbm, ⟨14, _⟩ => ⟨S_, .i32⟩
  | .hbm, ⟨15, _⟩ => ⟨S8x2097152, .i32⟩
  | .hbm, ⟨16, _⟩ => ⟨S8x2097152, .i1⟩
  | .hbm, ⟨17, _⟩ => ⟨S_, .i32⟩
  | .hbm, ⟨18, _⟩ => ⟨S8x2097152, .i32⟩
  | .hbm, ⟨19, _⟩ => ⟨S8x2097152, .i32⟩
  | .hbm, ⟨20, _⟩ => ⟨S8x2097152, .i32⟩
  | .hbm, ⟨21, _⟩ => ⟨S8x2097152x1, .i32⟩
  | .hbm, ⟨22, _⟩ => ⟨S1, .i32⟩
  | .hbm, ⟨23, _⟩ => ⟨S_, .i32⟩
  | .hbm, ⟨24, _⟩ => ⟨S8x2097152x1, .i32⟩
  | .hbm, ⟨25, _⟩ => ⟨S8x2097152x1, .i1⟩
  | .hbm, ⟨26, _⟩ => ⟨S1x1x1, .i32⟩
  | .hbm, ⟨27, _⟩ => ⟨S8x2097152x1, .i32⟩
  | .hbm, ⟨28, _⟩ => ⟨S8x2097152x1, .i1⟩
  | .hbm, ⟨29, _⟩ => ⟨S8x2097152x1, .i1⟩
  | .hbm, ⟨30, _⟩ => ⟨S_, .i1⟩
  | .hbm, ⟨31, _⟩ => ⟨S8x2097152, .i1⟩
  | .hbm, ⟨32, _⟩ => ⟨S8x2097152, .f32⟩
  | .hbm, ⟨33, _⟩ => ⟨S_, .f32⟩
  | .hbm, ⟨34, _⟩ => ⟨S8x2097152, .f32⟩
  | .hbm, ⟨35, _⟩ => ⟨S8x2097152, .f32⟩
  | .hbm, ⟨36, _⟩ => ⟨S8x2097152x1, .f32⟩
  | _, _ => ⟨S2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v9 : Ref sig .tc := ⟨.hbm, 35, rfl⟩
abbrev main_v10 : Ref sig .tc := ⟨.hbm, 36, rfl⟩

abbrev nD : Nat := 1
abbrev τ : Topo := Topo.v7x

variable {F : FTy → Type} [FloatOps F]
-- ==== Proof.Rows.lean ====
/-
  One row of a chunk: the loop that reads sixteen lanes of the chunk's points, accumulates the ten terms of the row in two
  accumulators (the even terms and the odd ones) and stores their sum. `accV` is what a trip stores, `accAt` the same at one
  lane, `fillTo` the row buffer after the first trips. `row_trip` is one trip of any of the eight row loops.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.PointwiseCore
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## What one trip stores -/

/-- One term at one lane: `d` added when `x` is past the boundary `l`. -/
def term (x l d acc : F .f32) : F .f32 := Scalar.select (FloatOps.cmpf .ogt x l) (FloatOps.addf acc d) acc

/-- The ten terms at one lane: the even ones accumulated, the odd ones accumulated, the two added. -/
def accAt (x : F .f32) (l d : Fin 10 → F .f32) : F .f32 :=
  FloatOps.addf
    (term x (l 8) (d 8) (term x (l 6) (d 6) (term x (l 4) (d 4) (term x (l 2) (d 2) (term x (l 0) (d 0) (Scalar.ofBits .f32 0x00000000#32))))))
    (term x (l 9) (d 9) (term x (l 7) (d 7) (term x (l 5) (d 5) (term x (l 3) (d 3) (term x (l 1) (d 1) (Scalar.ofBits .f32 0x00000000#32))))))

/-- One term over the sixteen lanes, the boundary and the increment as loaded. -/
def termV (x : Vec F S16 .f32) (l d : Vec F S1x1x16 .f32) (acc : FVec F S16 .f32) : FVec F S16 .f32 :=
  select (cmpf .ogt (shapeCast S16 x shapeCasts_S16_S16) (shapeCast S16 l shapeCasts_S1x1x16_S16))
    (addf acc (shapeCast S16 d shapeCasts_S1x1x16_S16)) acc

/-- What a trip stores, from the twenty loaded rows and the sixteen points. -/
def accV (l0 l1 l2 l3 l4 l5 l6 l7 l8 l9 d0 d1 d2 d3 d4 d5 d6 d7 d8 d9 : Vec F S1x1x16 .f32) (x : Vec F S16 .f32) : FVec F S1x16 .f32 :=
  shapeCast S1x16
    (addf
      (termV x l8 d8 (termV x l6 d6 (termV x l4 d4 (termV x l2 d2 (termV x l0 d0 (broadcast S16 (Scalar.ofBits .f32 0x00000000#32)))))))
      (termV x l9 d9 (termV x l7 d7 (termV x l5 d5 (termV x l3 d3 (termV x l1 d1 (broadcast S16 (Scalar.ofBits .f32 0x00000000#32)))))))
      ) shapeCasts_S16_S1x16

theorem termV_apply (x : Vec F S16 .f32) (l d : Vec F S1x1x16 .f32) (acc : FVec F S16 .f32) (j : S16.Idx) :
    termV x l d acc j = term (x j) (l (ix3 0 0 (j 0))) (d (ix3 0 0 (j 0))) (acc j) := by
  unfold termV term
  idx_vars j
  pointwise

theorem accV_apply (l0 l1 l2 l3 l4 l5 l6 l7 l8 l9 d0 d1 d2 d3 d4 d5 d6 d7 d8 d9 : Vec F S1x1x16 .f32) (x : Vec F S16 .f32) (j : Fin 16) :
    accV l0 l1 l2 l3 l4 l5 l6 l7 l8 l9 d0 d1 d2 d3 d4 d5 d6 d7 d8 d9 x (ix2 0 j)
      = accAt (x (ix1 j)) (![l0 (ix3 0 0 j), l1 (ix3 0 0 j), l2 (ix3 0 0 j), l3 (ix3 0 0 j), l4 (ix3 0 0 j), l5 (ix3 0 0 j), l6 (ix3 0 0 j), l7 (ix3 0 0 j), l8 (ix3 0 0 j), l9 (ix3 0 0 j)])
          (![d0 (ix3 0 0 j), d1 (ix3 0 0 j), d2 (ix3 0 0 j), d3 (ix3 0 0 j), d4 (ix3 0 0 j), d5 (ix3 0 0 j), d6 (ix3 0 0 j), d7 (ix3 0 0 j), d8 (ix3 0 0 j), d9 (ix3 0 0 j)]) := by
  unfold accV accAt
  pointwise
  simp only [termV_apply]
  pointwise

/-! ## The chunk's row buffer -/

/-- The row buffer after every row of a chunk: at row `s` and point `n` the ten terms of row `s`, at the lane `n` falls in. -/
def chunkOut (fx : S8192.Idx → F .f32) (fl fd : S8x10x16.Idx → F .f32) : S8x8192.Idx → F .f32 := fun j =>
  accAt (fx (ix1 (j 1)))
    (fun t => fl (ix3 (j 0) t ⟨(j 1).val % 16, Nat.mod_lt _ (by decide)⟩))
    (fun t => fd (ix3 (j 0) t ⟨(j 1).val % 16, Nat.mod_lt _ (by decide)⟩))

/-- `W` at the first `n` places of the row buffer, read row after row, and `f` at the others. -/
def fillTo (n : ℕ) (W f : S8x8192.Idx → F .f32) : S8x8192.Idx → F .f32 := fun j =>
  if (j 0).val * 8192 + (j 1).val < n then W j else f j

theorem fillTo_zero (W f : S8x8192.Idx → F .f32) : fillTo 0 W f = f := funext fun j => if_neg (Nat.not_lt_zero _)

theorem fillTo_all (W f : S8x8192.Idx → F .f32) : fillTo 65536 W f = W := by
  funext j
  refine if_pos ?_
  have h0 : (j 0).val < 8 := (j 0).isLt
  have h1 : (j 1).val < 8192 := (j 1).isLt
  omega

/-- Sixteen lanes stored at trip `k` of row `s` fill sixteen places more. -/
theorem fillTo_store (s : ℕ) (hs : s < 8) (k : ℕ) (hk : k < 512) (W f : S8x8192.Idx → F .f32)
    (i2 : ∀ a, (![s, 16 * k] : Fin 2 → ℕ) a + S1x16.size a ≤ S8x8192.size a) (w : FVec F S1x16 .f32)
    (hw : ∀ (j : Fin 16) (h : 16 * k + j.val < 8192), w (ix2 0 j) = W (ix2 ⟨s, hs⟩ ⟨16 * k + j.val, h⟩)) :
    (Memref.whole cc0_scratch1 : Memref sig .scVector .vmem S8x8192 .f32).view.writes (Elt F) (fillTo (8192 * s + 16 * k) W f)
        [⟨Rect.unit (s := S8x8192) ![s, 16 * k] S1x16.size i2, w⟩]
      = fillTo (8192 * s + 16 * (k + 1)) W f := by
  suffices hy : ∀ y : S8x8192.Idx, (Memref.whole cc0_scratch1 : Memref sig .scVector .vmem S8x8192 .f32).view.read (Elt F)
      ((Memref.whole cc0_scratch1 : Memref sig .scVector .vmem S8x8192 .f32).view.writes (Elt F) (fillTo (8192 * s + 16 * k) W f)
        [⟨Rect.unit (s := S8x8192) ![s, 16 * k] S1x16.size i2, w⟩]) y = fillTo (8192 * s + 16 * (k + 1)) W f y from funext hy
  intro y
  idx_vars y
  have h0 := y0.isLt
  have h1 := y1.isLt
  by_cases e0 : y0.val = s
  · by_cases e1 : 16 * k ≤ y1.val ∧ y1.val < 16 * k + 16
    · obtain ⟨j, hj⟩ : ∃ j : Fin 16, y1.val = 16 * k + j.val := ⟨⟨y1.val - 16 * k, by omega⟩, by simp; omega⟩
      rw [View.read_writes_cons_hit_of_coords _ _ _ _ _ (ix2 0 j) _ (by
        intro a; match a with
        | 0 => simpa using e0
        | 1 => simpa using hj), hw j (by omega)]
      have e : (ix2 (⟨s, hs⟩ : Fin 8) (⟨16 * k + j.val, by omega⟩ : Fin 8192) : S8x8192.Idx) = ix2 y0 y1 := by
        congr 1
        · exact Fin.ext e0.symm
        · exact Fin.ext hj.symm
      rw [e]
      exact (if_pos (show y0.val * 8192 + y1.val < _ by omega)).symm
    · rw [View.read_writes_cons_miss_of_axis _ _ _ _ _ (1 : Fin 2) (16 * k) 16 rfl rfl rfl (by
        show y1.val < _ ∨ _ ≤ y1.val; omega)]
      show (if y0.val * 8192 + y1.val < _ then _ else _) = if y0.val * 8192 + y1.val < _ then _ else _
      refine if_congr ?_ rfl rfl
      omega
  · rw [View.read_writes_cons_miss_of_axis _ _ _ _ _ (0 : Fin 2) s 1 rfl rfl rfl (by
        show y0.val < _ ∨ _ ≤ y0.val; omega)]
    show (if y0.val * 8192 + y1.val < _ then _ else _) = if y0.val * 8192 + y1.val < _ then _ else _
    refine if_congr ?_ rfl rfl
    omega

/-- A lane of sixteen points loaded at trip `k`. -/
theorem read_x (k : ℕ) (fx : S8192.Idx → F .f32) (i1 : ∀ a, (![16 * k] : Fin 1 → ℕ) a + S16.size a ≤ S8192.size a) (j : Fin 16) (h : 16 * k + j.val < 8192) :
    View.readAt (Elt F) (Memref.whole cc0_scratch0 : Memref sig .scVector .vmem S8192 .f32).view (Rect.unit (s := S8192) ![16 * k] S16.size i1).toLoadRect fx (ix1 j)
      = fx (ix1 ⟨16 * k + j.val, h⟩) := by
  show fx _ = _
  congr 1
  refine Rect.emb_eq_of_coords _ _ _ ?_
  intro a; match a with
  | 0 => simp

theorem inbTab (s : ℕ) (hs : s < 8) (t : Fin 10) : ∀ a, (![s, t.val, 0] : Fin 3 → ℕ) a + S1x1x16.size a ≤ S8x10x16.size a := by
  intro a
  match a with
  | 0 => show s + 1 ≤ 8; omega
  | 1 => show t.val + 1 ≤ 10; omega
  | 2 => show 0 + 16 ≤ 16; omega

/-- Term `t` of row `s` of a table in the scratch buffer `b`, as loaded. -/
abbrev rdL (s : ℕ) (hs : s < 8) (fl : S8x10x16.Idx → F .f32) (t : Fin 10) : Vec F S1x1x16 .f32 :=
  View.readAt (Elt F) (Memref.whole cc0_scratch2 : Memref sig .scVector .vmem S8x10x16 .f32).view
    (Rect.unit (s := S8x10x16) ![s, t.val, 0] S1x1x16.size (inbTab s hs t)).toLoadRect fl
abbrev rdD (s : ℕ) (hs : s < 8) (fd : S8x10x16.Idx → F .f32) (t : Fin 10) : Vec F S1x1x16 .f32 :=
  View.readAt (Elt F) (Memref.whole cc0_scratch3 : Memref sig .scVector .vmem S8x10x16 .f32).view
    (Rect.unit (s := S8x10x16) ![s, t.val, 0] S1x1x16.size (inbTab s hs t)).toLoadRect fd

/-- What a trip of row `s` stores, from the two tables. -/
abbrev rowV (s : ℕ) (hs : s < 8) (fl fd : S8x10x16.Idx → F .f32) (x : Vec F S16 .f32) : FVec F S1x16 .f32 :=
  accV (rdL s hs fl 0) (rdL s hs fl 1) (rdL s hs fl 2) (rdL s hs fl 3) (rdL s hs fl 4) (rdL s hs fl 5) (rdL s hs fl 6) (rdL s hs fl 7)
    (rdL s hs fl 8) (rdL s hs fl 9) (rdD s hs fd 0) (rdD s hs fd 1) (rdD s hs fd 2) (rdD s hs fd 3) (rdD s hs fd 4) (rdD s hs fd 5)
    (rdD s hs fd 6) (rdD s hs fd 7) (rdD s hs fd 8) (rdD s hs fd 9) x

theorem rdL_apply (s : ℕ) (hs : s < 8) (fl : S8x10x16.Idx → F .f32) (t : Fin 10) (j : Fin 16) :
    rdL s hs fl t (ix3 0 0 j) = fl (ix3 ⟨s, hs⟩ t j) := by
  show fl _ = _
  congr 1
  refine Rect.emb_eq_of_coords _ _ _ ?_
  intro a; match a with
  | 0 => simp
  | 1 => simp
  | 2 => simp

theorem rdD_apply (s : ℕ) (hs : s < 8) (fd : S8x10x16.Idx → F .f32) (t : Fin 10) (j : Fin 16) :
    rdD s hs fd t (ix3 0 0 j) = fd (ix3 ⟨s, hs⟩ t j) := rdL_apply s hs fd t j

theorem rowV_apply (s : ℕ) (hs : s < 8) (fl fd : S8x10x16.Idx → F .f32) (x : Vec F S16 .f32) (j : Fin 16) :
    rowV s hs fl fd x (ix2 0 j) = accAt (x (ix1 j)) (fun t => fl (ix3 ⟨s, hs⟩ t j)) (fun t => fd (ix3 ⟨s, hs⟩ t j)) := by
  unfold rowV
  rw [accV_apply]
  simp only [rdL_apply, rdD_apply]
  rfl

section Trip

abbrev cV (L : grid0.Coords) : Fin τ.nSC := (L 0).castLE hcore0
abbrev jV (L : grid0.Coords) : Fin τ.nSub := (L 1).castLE hsub0

abbrev UH : Type := URounds (GSem nD τ sig) ℕ
abbrev UU : Type := UH × Counters

local notation "𝕄" => MT nD τ sig (HIx 1) (Elt F) ℕ UU ℕ
local notation "xv" => (Memref.whole Cert.KernelIdeal.cc0_scratch0 : Memref Cert.KernelIdeal.sig Kind.scVector Space.vmem Cert.KernelIdeal.S8192 EltTy.f32)
local notation "ov" => (Memref.whole Cert.KernelIdeal.cc0_scratch1 : Memref Cert.KernelIdeal.sig Kind.scVector Space.vmem Cert.KernelIdeal.S8x8192 EltTy.f32)

abbrev 𝒱₀ : Variants := Variants.none

variable (d : Dev nD) (L : grid0.Coords)

/-- Row loop invariant: the points as fetched, the row buffer filled up to trip `k` of row `s`. -/
def rowInv (s : ℕ) (fx : S8192.Idx → F .f32) (W f : S8x8192.Idx → F .f32) (k : ℕ) (_ : Unit) : sProp 𝕄 :=
  iprop(((xv).view.loc (V d (cV L) (jV L)) ↦{fullShare} fx) ∗ ((ov).view.loc (V d (cV L) (jV L)) ↦{fullShare} fillTo (8192 * s + 16 * k) W f))

theorem row_trip (s : ℕ) (hs : s < 8) (k : ℕ) (hk : k < 512) (fx : S8192.Idx → F .f32) (fl fd : S8x10x16.Idx → F .f32) (f : S8x8192.Idx → F .f32)
    {o1 : Fin 1 → ℕ} {o2 : Fin 2 → ℕ} (h1 : o1 = ![16 * k]) (h2 : o2 = ![s, 16 * k])
    (i1 : ∀ a, o1 a + S16.size a ≤ S8192.size a) (i2 : ∀ a, o2 a + S1x16.size a ≤ S8x8192.size a)
    (pay : Vec F S16 .f32 → FVec F S1x16 .f32)
    (hpay : ∀ x : Vec F S16 .f32, pay x = rowV s hs fl fd x)
    (acc : Unit) :
    rowInv d L s fx (chunkOut fx fl fd) f k acc
      ⊢ wp frame (wpE (defs₀ (F := F)) 𝒱₀ (V d (cV L) (jV L)) none) Set.univ
          (do
            let v658 : Vec F S16 .f32 ← Prog.lift (.load xv (Rect.unit (s := S8192) o1 S16.size i1).toLoadRect (View.loadsAt_vmem h_S16))
            let v696 : Vec F S1x16 .f32 ← Prog.lift (.load ov (Rect.unit (s := S8x8192) o2 S1x16.size i2).toLoadRect (View.loadsAt_vmem h_S1x16))
            Prog.lift (.store ov (Rect.unit (s := S8x8192) o2 S1x16.size i2) (pay v658) Finset.univ (View.stores_vmem_bits_univ h_S1x16 rfl) (.inl rfl))
            pure ⟨⟩)
          (rowInv d L s fx (chunkOut fx fl fd) f (k + 1)) := by
  unfold rowInv
  iintro ⟨Hx, Ho⟩
  sl_exec
  sl_step
  isplitl [Hx]; · iexact Hx
  subst h1 h2
  rw [fillTo_store s hs k hk]
  · iexact Ho
  intro j h
  rw [hpay, rowV_apply, read_x k fx _ j h]
  unfold chunkOut
  have e : (⟨(16 * k + j.val) % 16, Nat.mod_lt _ (by decide)⟩ : Fin 16) = j := Fin.ext (by show (16 * k + j.val) % 16 = j.val; omega)
  show _ = accAt (fx (ix1 ⟨16 * k + j.val, h⟩)) (fun t => fl (ix3 ⟨s, hs⟩ t ⟨(16 * k + j.val) % 16, _⟩)) (fun t => fd (ix3 ⟨s, hs⟩ t ⟨(16 * k + j.val) % 16, _⟩))
  rw [e]

/-- The end of one row is the beginning of the next. -/
theorem row_next (s n : ℕ) (hn : n = 512) (fx : S8192.Idx → F .f32) (W f : S8x8192.Idx → F .f32) (u u' : Unit) :
    (rowInv d L s fx W f n u : sProp 𝕄) = rowInv d L (s + 1) fx W f 0 u' := by
  subst hn; unfold rowInv; rw [show 8192 * s + 16 * 512 = 8192 * (s + 1) + 16 * 0 by ring]

theorem row_first (fx : S8192.Idx → F .f32) (W f : S8x8192.Idx → F .f32) (u : Unit) :
    (rowInv d L 0 fx W f 0 u : sProp 𝕄) = iprop(((xv).view.loc (V d (cV L) (jV L)) ↦{fullShare} fx) ∗ ((ov).view.loc (V d (cV L) (jV L)) ↦{fullShare} f)) := by
  unfold rowInv; rw [show 8192 * 0 + 16 * 0 = 0 from rfl, fillTo_zero]

theorem row_last (fx : S8192.Idx → F .f32) (W f : S8x8192.Idx → F .f32) (u : Unit) :
    (rowInv d L 8 fx W f 0 u : sProp 𝕄) = iprop(((xv).view.loc (V d (cV L) (jV L)) ↦{fullShare} fx) ∗ ((ov).view.loc (V d (cV L) (jV L)) ↦{fullShare} W)) := by
  unfold rowInv; rw [show 8192 * 8 + 16 * 0 = 65536 from rfl, fillTo_all]

end Trip

end Cert.Proof.Rows

end
-- ==== Proof.Pieces.lean ====
/-
  The result in pieces: 2048 rows of 8192 points, one for each SparseCore, vector subcore, chunk and row of the tables. A
  task's copies out write one piece each; `piece_done` says what a piece holds afterwards, `out_pieces` that the pieces are
  the whole result.
-/
module

public import proofs.«01_k».proof.Proof.Rows

@[expose] public section

noncomputable section

namespace Cert.Proof.Pieces

open Cert.KernelIdeal Cert.KernelIdeal.Gen
open Cert.Proof.Rows

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xA" => (Memref.whole Cert.KernelIdeal.main_arg0_scv : Memref Cert.KernelIdeal.sig Kind.scVector Space.hbm Cert.KernelIdeal.S2097152 EltTy.f32)
local notation "oA" => (Memref.whole Cert.KernelIdeal.main_v17_scv : Memref Cert.KernelIdeal.sig Kind.scVector Space.hbm Cert.KernelIdeal.S8x2097152 EltTy.f32)
local notation "ov" => (Memref.whole Cert.KernelIdeal.cc0_scratch1 : Memref Cert.KernelIdeal.sig Kind.scVector Space.vmem Cert.KernelIdeal.S8x8192 EltTy.f32)

/-! ## The result's value, from the points and the two tables -/

/-- The result: at row `s` and point `n`, the ten terms of row `s` of the tables, at the lane `n` falls in. -/
def outV (X : S2097152.Idx → F .f32) (lt dt : S8x10x16.Idx → F .f32) : S8x2097152.Idx → F .f32 := fun j =>
  accAt (X (ix1 (j 1)))
    (fun t => lt (ix3 (j 0) t ⟨(j 1).val % 16, Nat.mod_lt _ (by decide)⟩))
    (fun t => dt (ix3 (j 0) t ⟨(j 1).val % 16, Nat.mod_lt _ (by decide)⟩))

/-! ## Where a piece lies -/

theorem reshape_row (h : S8192.numel = S1x8192.numel) (y : Fin 8192) : Shape.reshapeEquiv h (ix1 y : S8192.Idx) = (ix2 0 y : S1x8192.Idx) := by
  rw [show (Shape.reshapeEquiv h (ix1 y : S8192.Idx) : S1x8192.Idx) = _ from Shape.reshapeEquiv_cons_one (n := 1) (d := ![8192]) h (ix1 y)]
  funext a
  match a with
  | 0 => rfl
  | 1 => rfl

/-- One row of one chunk of the result, as the task addresses it at offsets `o`. -/
abbrev pcK (o : Fin 2 → ℕ) (i : ∀ a, o a + S1x8192.size a ≤ S8x2097152.size a) : Memref sig .scVector .hbm S8192 .f32 :=
  ((oA).slice (Rect.unit (s := S8x2097152) o S1x8192.size i) (fun _ => rfl)).squeeze S8192 squeezes_S1x8192_S8192

/-- One row of the row buffer, as the task addresses it. -/
abbrev orK (o : Fin 2 → ℕ) (i : ∀ a, o a + S1x8192.size a ≤ S8x8192.size a) : Memref sig .scVector .vmem S8192 .f32 :=
  ((ov).slice (Rect.unit (s := S8x8192) o S1x8192.size i) (fun _ => rfl)).squeeze S8192 squeezes_S1x8192_S8192

theorem emb_pcK (s : Fin 8) (base : ℕ) {o : Fin 2 → ℕ} (ho : o = ![s.val, base]) (i : ∀ a, o a + S1x8192.size a ≤ S8x2097152.size a)
    (y : Fin 8192) (h : base + y.val < 2097152) : (pcK o i).view.emb (ix1 y) = (ix2 s ⟨base + y.val, h⟩ : S8x2097152.Idx) := by
  subst ho
  show (Rect.unit (s := S8x2097152) ![s.val, base] S1x8192.size i).emb (Shape.reshapeEquiv _ (ix1 y : S8192.Idx)) = _
  rw [reshape_row]
  refine Rect.emb_eq_of_coords _ _ _ ?_
  intro a; match a with
  | 0 => simp
  | 1 => simp

theorem emb_orK (s : Fin 8) {o : Fin 2 → ℕ} (ho : o = ![s.val, 0]) (i : ∀ a, o a + S1x8192.size a ≤ S8x8192.size a)
    (y : Fin 8192) : (orK o i).view.emb (ix1 y) = (ix2 s y : S8x8192.Idx) := by
  subst ho
  show (Rect.unit (s := S8x8192) ![s.val, 0] S1x8192.size i).emb (Shape.reshapeEquiv _ (ix1 y : S8192.Idx)) = _
  rw [reshape_row]
  refine Rect.emb_eq_of_coords _ _ _ ?_
  intro a; match a with
  | 0 => simp
  | 1 => simp

/-- The first point of chunk `ci` of vector subcore `i` of SparseCore `c`. -/
abbrev base (c i ci : ℕ) : ℕ := 131072 * i + 65536 * c + 8192 * ci

/-- The elements of a piece: row `s`, the points of the chunk. -/
def pieceSet (c i ci s : ℕ) : Finset S8x2097152.Idx :=
  Finset.univ.filter fun j => (j 0).val = s ∧ base c i ci ≤ (j 1).val ∧ (j 1).val < base c i ci + 8192

theorem mem_pieceSet {c i ci s : ℕ} {j : S8x2097152.Idx} :
    j ∈ pieceSet c i ci s ↔ (j 0).val = s ∧ base c i ci ≤ (j 1).val ∧ (j 1).val < base c i ci + 8192 := by
  unfold pieceSet; simp

theorem set_pcK (c i ci : ℕ) (s : Fin 8) {o : Fin 2 → ℕ} (ho : o = ![s.val, base c i ci]) (hi : ∀ a, o a + S1x8192.size a ≤ S8x2097152.size a) :
    (pcK o hi).view.set = pieceSet c i ci s.val := by
  have hb : base c i ci + 8192 ≤ 2097152 := by have := hi 1; subst ho; simpa using this
  ext j
  rw [mem_pieceSet]
  constructor
  · intro hj
    obtain ⟨y, -, rfl⟩ := Finset.mem_map.mp hj
    obtain ⟨y0, rfl⟩ : ∃ y0 : Fin 8192, y = ix1 y0 := ⟨y 0, funext fun a => by match a with | 0 => rfl⟩
    rw [emb_pcK s _ ho hi y0 (by omega)]
    refine ⟨rfl, ?_⟩
    show _ ≤ base c i ci + y0.val ∧ base c i ci + y0.val < _
    omega
  · rintro ⟨h0, h1, h2⟩
    refine Finset.mem_map.mpr ⟨ix1 (⟨(j 1).val - base c i ci, by omega⟩ : Fin 8192), Finset.mem_univ _, ?_⟩
    rw [emb_pcK s _ ho hi _ (by show _ + ((j 1).val - _) < _; omega)]
    refine funext fun a => Fin.ext ?_
    match a with
    | 0 => exact h0.symm
    | 1 => show base c i ci + ((j 1).val - base c i ci) = (j 1).val; omega

section Piece

variable (d : Dev nD) (L : grid0.Coords)

abbrev thr (d : Dev nD) (L : grid0.Coords) : Thread nD τ := V d (cV L) (jV L)
abbrev oLoc (d : Dev nD) : Loc nD τ sig := (SparseCore.T d).loc main_v17

theorem pts_pcK (c i ci : ℕ) (s : Fin 8) {o : Fin 2 → ℕ} (ho : o = ![s.val, base c i ci]) (hi : ∀ a, o a + S1x8192.size a ≤ S8x2097152.size a)
    (f : Buf (Elt F) (oLoc d)) :
    ((pcK o hi).view.loc (thr d L) ↦[(pcK o hi).view.set]{fullShare} f : sProp 𝕄) = oLoc d ↦[pieceSet c i ci s.val]{fullShare} f := by
  rw [set_pcK c i ci s ho hi]

/-- What a piece holds once the row of the row buffer is copied to it. -/
theorem piece_done (c i ci : ℕ) (s : Fin 8) {o : Fin 2 → ℕ} (ho : o = ![s.val, base c i ci]) (hi : ∀ a, o a + S1x8192.size a ≤ S8x2097152.size a)
    {o' : Fin 2 → ℕ} (ho' : o' = ![s.val, 0]) (hi' : ∀ a, o' a + S1x8192.size a ≤ S8x8192.size a)
    (X : S2097152.Idx → F .f32) (fx : S8192.Idx → F .f32) (fl fd : S8x10x16.Idx → F .f32) (fo : Buf (Elt F) (oLoc d))
    (hx : ∀ (y : Fin 8192) (h : base c i ci + y.val < 2097152), fx (ix1 y) = X (ix1 ⟨base c i ci + y.val, h⟩)) :
    ((pcK o hi).view.loc (thr d L) ↦[(pcK o hi).view.set]{fullShare}
        (pcK o hi).view.writes (Elt F) fo [⟨Rect.whole S8192, (orK o' hi').view.read (Elt F) (chunkOut fx fl fd)⟩] : sProp 𝕄)
      = oLoc d ↦[pieceSet c i ci s.val]{fullShare} outV X fl fd := by
  have hb : base c i ci + 8192 ≤ 2097152 := by have := hi 1; subst ho; simpa using this
  rw [← pts_pcK d L c i ci s ho hi]
  refine pointsTo_congr fun j hj => ?_
  obtain ⟨y, -, rfl⟩ := Finset.mem_map.mp hj
  obtain ⟨y0, rfl⟩ : ∃ y0 : Fin 8192, y = ix1 y0 := ⟨y 0, funext fun a => by match a with | 0 => rfl⟩
  have hy : base c i ci + y0.val < 2097152 := by omega
  rw [View.writes_singleton]
  have e1 : ((pcK o hi).view.slice (Rect.whole S8192)).emb (ix1 y0 : S8192.Idx) = (pcK o hi).view.emb (ix1 y0) := by
    show (pcK o hi).view.emb ((Rect.whole S8192).emb (ix1 y0)) = _
    congr 1
    refine Rect.emb_eq_of_coords _ _ _ ?_
    intro a; match a with
    | 0 => simp [Rect.whole]
  rw [← e1, View.write_emb_of_mem _ _ (Finset.mem_univ _), e1, emb_pcK s _ ho hi y0 hy]
  show chunkOut fx fl fd ((orK o' hi').view.emb (ix1 y0)) = _
  rw [emb_orK s ho']
  unfold chunkOut outV
  have e2 : (⟨(base c i ci + y0.val) % 16, Nat.mod_lt _ (by decide)⟩ : Fin 16) = ⟨y0.val % 16, Nat.mod_lt _ (by decide)⟩ := Fin.ext (by
    show (131072 * i + 65536 * c + 8192 * ci + y0.val) % 16 = y0.val % 16; omega)
  show accAt (fx (ix1 y0)) (fun t => fl (ix3 s t ⟨y0.val % 16, _⟩)) (fun t => fd (ix3 s t ⟨y0.val % 16, _⟩))
    = accAt (X (ix1 ⟨base c i ci + y0.val, hy⟩)) (fun t => fl (ix3 s t ⟨(base c i ci + y0.val) % 16, _⟩)) (fun t => fd (ix3 s t ⟨(base c i ci + y0.val) % 16, _⟩))
  rw [hx y0 hy, e2]

end Piece

/-! ## The pieces are the whole result -/

abbrev PIx : Type := Fin 2 × Fin 16 × Fin 8 × Fin 8
abbrev pSet (p : PIx) : Finset S8x2097152.Idx := pieceSet p.1.val p.2.1.val p.2.2.1.val p.2.2.2.val

theorem pieces_disjoint : ∀ p ∈ (Finset.univ : Finset PIx), ∀ q ∈ (Finset.univ : Finset PIx), p ≠ q → Disjoint (pSet p) (pSet q) := by
  rintro ⟨c, i, ci, s⟩ - ⟨c', i', ci', s'⟩ - h
  refine Finset.disjoint_left.mpr fun j hj hj' => h ?_
  obtain ⟨a0, a1, a2⟩ := mem_pieceSet.mp hj
  obtain ⟨b0, b1, b2⟩ := mem_pieceSet.mp hj'
  simp only [base] at a0 a1 a2 b0 b1 b2
  have := c.isLt; have := c'.isLt; have := i.isLt; have := i'.isLt; have := ci.isLt; have := ci'.isLt
  have e0 : s = s' := Fin.ext (a0.symm.trans b0)
  have e1 : c = c' := Fin.ext (by omega)
  have e2 : i = i' := Fin.ext (by omega)
  have e3 : ci = ci' := Fin.ext (by omega)
  rw [e0, e1, e2, e3]

theorem biUnion_cover {I J : Type} [Fintype I] [Fintype J] [DecidableEq J] (f : I → Finset J) (h : ∀ j, ∃ p, j ∈ f p) :
    Finset.univ.biUnion f = Finset.univ :=
  Finset.eq_univ_of_forall fun j => (h j).elim fun p hp => Finset.mem_biUnion.mpr ⟨p, Finset.mem_univ p, hp⟩

theorem pieces_mem (j : S8x2097152.Idx) : ∃ p : PIx, j ∈ pSet p := by
  have h0 : (j 0).val < 8 := (j 0).isLt
  have h1 : (j 1).val < 2097152 := (j 1).isLt
  generalize e0 : (j 0).val = a at h0
  generalize e1 : (j 1).val = b at h1
  refine ⟨(⟨b / 65536 % 2, by omega⟩, ⟨b / 131072, by omega⟩, ⟨b / 8192 % 8, by omega⟩, ⟨a, h0⟩), mem_pieceSet.mpr ⟨e0, ?_⟩⟩
  rw [e1]
  simp only [base]
  omega

theorem pieces_cover : (Finset.univ : Finset PIx).biUnion pSet = Finset.univ := biUnion_cover pSet pieces_mem

/-- The pieces of one task. -/
def tilePcs (d : Dev nD) (c i : ℕ) (f : Buf (Elt F) (oLoc d)) : sProp 𝕄 :=
  bigSep Finset.univ fun ci : Fin 8 => bigSep Finset.univ fun s : Fin 8 => oLoc d ↦[pieceSet c i ci.val s.val]{fullShare} f

theorem out_pieces (d : Dev nD) (f : Buf (Elt F) (oLoc d)) :
    (oLoc d ↦{fullShare} f : sProp 𝕄) = bigSep Finset.univ fun c : Fin 2 => bigSep Finset.univ fun i : Fin 16 => tilePcs d c.val i.val f := by
  have h : (oLoc d ↦{fullShare} f : sProp 𝕄) = bigSep (Finset.univ : Finset PIx) fun p => oLoc d ↦[pSet p]{fullShare} f := by
    rw [← pointsTo_biUnion Finset.univ (ℓ := oLoc d) pSet pieces_disjoint, pieces_cover]
  rw [h, bigSep_univ_prod]
  refine bigSep_congr fun c _ => ?_
  rw [bigSep_univ_prod]
  refine bigSep_congr fun i _ => ?_
  rw [bigSep_univ_prod]
  rfl

/-- Eight conjuncts, one by one. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The pieces of one task before chunk `k`: the chunks done hold `g`, the others `f`. -/
def tileAt (d : Dev nD) (c i : ℕ) (f g : Buf (Elt F) (oLoc d)) (k : ℕ) : sProp 𝕄 :=
  bigSep Finset.univ fun ci : Fin 8 => bigSep Finset.univ fun s : Fin 8 => oLoc d ↦[pieceSet c i ci.val s.val]{fullShare} (if ci.val < k then g else f)

theorem tileAt_zero (d : Dev nD) (c i : ℕ) (f g : Buf (Elt F) (oLoc d)) : (tileAt d c i f g 0 : sProp 𝕄) = tilePcs d c i f := by
  unfold tileAt tilePcs
  exact bigSep_congr fun ci _ => bigSep_congr fun s _ => by rw [if_neg (Nat.not_lt_zero _)]

theorem tileAt_last (d : Dev nD) (c i : ℕ) (f g : Buf (Elt F) (oLoc d)) : (tileAt d c i f g 8 : sProp 𝕄) = tilePcs d c i g := by
  unfold tileAt tilePcs
  exact bigSep_congr fun ci _ => bigSep_congr fun s _ => by rw [if_pos ci.isLt]

/-- Chunk `k`'s pieces taken out, and put back. -/
abbrev rest (d : Dev nD) (c i : ℕ) (f g : Buf (Elt F) (oLoc d)) (k : ℕ) (hk : k < 8) : sProp 𝕄 :=
  bigSep (Finset.univ.erase (⟨k, hk⟩ : Fin 8)) fun ci : Fin 8 => bigSep Finset.univ fun s : Fin 8 => oLoc d ↦[pieceSet c i ci.val s.val]{fullShare} (if ci.val < k then g else f)

theorem tileAt_out (d : Dev nD) (c i : ℕ) (f g : Buf (Elt F) (oLoc d)) (k : ℕ) (hk : k < 8) :
    (tileAt d c i f g k : sProp 𝕄) = iprop((bigSep Finset.univ fun s : Fin 8 => oLoc d ↦[pieceSet c i k s.val]{fullShare} f) ∗ rest d c i f g k hk) := by
  unfold tileAt
  rw [SparseCore.bigSep_erase' (Finset.mem_univ (⟨k, hk⟩ : Fin 8))]
  rw [show (if (⟨k, hk⟩ : Fin 8).val < k then g else f) = f from if_neg (Nat.lt_irrefl k)]

theorem tileAt_in (d : Dev nD) (c i : ℕ) (f g : Buf (Elt F) (oLoc d)) (k : ℕ) (hk : k < 8) :
    (tileAt d c i f g (k + 1) : sProp 𝕄) = iprop((bigSep Finset.univ fun s : Fin 8 => oLoc d ↦[pieceSet c i k s.val]{fullShare} g) ∗ rest d c i f g k hk) := by
  unfold tileAt
  rw [SparseCore.bigSep_erase' (Finset.mem_univ (⟨k, hk⟩ : Fin 8))]
  rw [show (if (⟨k, hk⟩ : Fin 8).val < k + 1 then g else f) = g from if_pos (Nat.lt_succ_self k)]
  refine congrArg (fun R : sProp 𝕄 => iprop(_ ∗ R)) ?_
  refine bigSep_congr fun ci hci => bigSep_congr fun s _ => ?_
  have hne : ci.val ≠ k := fun e => (Finset.mem_erase.mp hci).1 (Fin.ext e)
  rw [if_congr (show ci.val < k + 1 ↔ ci.val < k by omega) rfl rfl]

end Cert.Proof.Pieces

end
-- ==== Proof.Task.lean ====
module

public import proofs.«01_k».proof.Proof.Pieces

@[expose] public section

noncomputable section

namespace Cert.Proof.Task

open Cert.KernelIdeal Cert.KernelIdeal.Gen
open Cert.Proof.Rows Cert.Proof.Pieces

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xA" => (Memref.whole Cert.KernelIdeal.main_arg0_scv : Memref Cert.KernelIdeal.sig Kind.scVector Space.hbm Cert.KernelIdeal.S2097152 EltTy.f32)
local notation "lA" => (Memref.whole Cert.KernelIdeal.main_v14_scv : Memref Cert.KernelIdeal.sig Kind.scVector Space.hbm Cert.KernelIdeal.S8x10x16 EltTy.f32)
local notation "dA" => (Memref.whole Cert.KernelIdeal.main_v16_scv : Memref Cert.KernelIdeal.sig Kind.scVector Space.hbm Cert.KernelIdeal.S8x10x16 EltTy.f32)
local notation "oA" => (Memref.whole Cert.KernelIdeal.main_v17_scv : Memref Cert.KernelIdeal.sig Kind.scVector Space.hbm Cert.KernelIdeal.S8x2097152 EltTy.f32)
local notation "xv" => (Memref.whole Cert.KernelIdeal.cc0_scratch0 : Memref Cert.KernelIdeal.sig Kind.scVector Space.vmem Cert.KernelIdeal.S8192 EltTy.f32)
local notation "ov" => (Memref.whole Cert.KernelIdeal.cc0_scratch1 : Memref Cert.KernelIdeal.sig Kind.scVector Space.vmem Cert.KernelIdeal.S8x8192 EltTy.f32)
local notation "lv" => (Memref.whole Cert.KernelIdeal.cc0_scratch2 : Memref Cert.KernelIdeal.sig Kind.scVector Space.vmem Cert.KernelIdeal.S8x10x16 EltTy.f32)
local notation "dv" => (Memref.whole Cert.KernelIdeal.cc0_scratch3 : Memref Cert.KernelIdeal.sig Kind.scVector Space.vmem Cert.KernelIdeal.S8x10x16 EltTy.f32)

section Chunk

variable (d : Dev nD) (L : grid0.Coords)

abbrev xCk (L : grid0.Coords) (k : Fin k0_t1_loop.trips) : Memref sig .scVector .hbm S8192 .f32 :=
  (xA).slice (Rect.unit (s := S2097152) (k0_off1 L k) S8192.size (k0_off1_inb L k)) (fun _ => rfl)

/-- The chunk's points. -/
abbrev xCkVal (L : grid0.Coords) (k : Fin k0_t1_loop.trips) (X : S2097152.Idx → F .f32) : S8192.Idx → F .f32 := (xCk L k).view.read (Elt F) X

variable (q : PosShare TreeShare) (X : S2097152.Idx → F .f32) (fl fd : S8x10x16.Idx → F .f32) (fo : S8x2097152.Idx → F .f32)

theorem xCkVal_apply (L : grid0.Coords) (k : Fin k0_t1_loop.trips) (X : S2097152.Idx → F .f32) (y : Fin 8192) (h : base (L 0).val (L 1).val k.val + y.val < 2097152) :
    xCkVal L k X (ix1 y) = X (ix1 ⟨base (L 0).val (L 1).val k.val + y.val, h⟩) := by
  show X ((Rect.unit (s := S2097152) (k0_off1 L k) S8192.size (k0_off1_inb L k)).emb (ix1 y)) = _
  congr 1
  refine Rect.emb_eq_of_coords _ _ _ ?_
  intro a; match a with
  | 0 =>
    have e := congrFun (k0_off1_eq L k) 0
    simpa using e.symm

/-- The chunk loop's invariant: the points, the pieces of the result (those of the chunks done at the result's value), the
    four scratch buffers (the two tables fetched), the nine copies' semaphores at zero. -/
def chunkInv (O : CellTallies nD τ sig (HIx 1)) (W : Waits sig (HIx 1)) (k : ℕ) (_ : Unit) : sProp 𝕄 :=
    iprop(Transfers.MayWaits (thr d L) (default : HIx 1) O
        ∗ ((xA).view.loc (thr d L) ↦{q} X)
        ∗ tileAt d (L 0).val (L 1).val fo (outV X fl fd) k
        ∗ (∃ f, (xv).view.loc (thr d L) ↦{fullShare} f)
        ∗ (∃ f, (ov).view.loc (thr d L) ↦{fullShare} f)
        ∗ ((lv).view.loc (thr d L) ↦{fullShare} fl)
        ∗ ((dv).view.loc (thr d L) ↦{fullShare} fd)
        ∗ semVal (thr d L, SemLoc.dma cc0_scoped2.sem) 0
        ∗ semVal (thr d L, SemLoc.dma cc0_scoped3.sem) 0
        ∗ semVal (thr d L, SemLoc.dma cc0_scoped4.sem) 0
        ∗ semVal (thr d L, SemLoc.dma cc0_scoped5.sem) 0
        ∗ semVal (thr d L, SemLoc.dma cc0_scoped6.sem) 0
        ∗ semVal (thr d L, SemLoc.dma cc0_scoped7.sem) 0
        ∗ semVal (thr d L, SemLoc.dma cc0_scoped8.sem) 0
        ∗ semVal (thr d L, SemLoc.dma cc0_scoped9.sem) 0
        ∗ semVal (thr d L, SemLoc.dma cc0_scoped10.sem) 0
        ∗ ∃ W', ⌜∀ p ∈ W', p ∈ W ∨ p.2 = none⌝ ∗ owes (thr d L) O W')

set_option maxHeartbeats 8000000 in
/-- One chunk: its points fetched, the eight rows computed into the row buffer, the rows copied out. -/
theorem chunk_trip (k : Fin k0_t1_loop.trips) (O : CellTallies nD τ sig (HIx 1)) (W : Waits sig (HIx 1)) (u : Unit) (v2 : BitVec 32) :
    chunkInv d L q X fl fd fo O W k.val u
      ⊢ wp frame (wpE (defs₀ (F := F)) 𝒱₀ (thr d L) none) Set.univ
          (k0_t1_body L xA (Memref.isWhole_whole _) lA (Memref.isWhole_whole _) dA (Memref.isWhole_whole _) oA (Memref.isWhole_whole _)
            xv (Memref.isWhole_whole _) ov (Memref.isWhole_whole _) lv (Memref.isWhole_whole _) dv (Memref.isWhole_whole _)
            cc0_scoped0 cc0_scoped1 cc0_scoped2 cc0_scoped3 cc0_scoped4 cc0_scoped5 cc0_scoped6 cc0_scoped7 cc0_scoped8 cc0_scoped9 cc0_scoped10 v2 k u)
          (chunkInv d L q X fl fd fo O W (k.val + 1)) := by
  have hk : k.val < 8 := k.isLt.trans_eq rfl
  unfold chunkInv
  rw [tileAt_out d _ _ _ _ k.val hk, tileAt_in d _ _ _ _ k.val hk, bigSep_eight, bigSep_eight]
  unfold k0_t1_body
  iintro ⟨Hmw, Hx, ⟨⟨Hp0, Hp1, Hp2, Hp3, Hp4, Hp5, Hp6, Hp7⟩, Hrest⟩, ⟨%gx, Hxv⟩, ⟨%go, Hov⟩, Hlv, Hdv, Hs2, Hs3, Hs4, Hs5, Hs6, Hs7, Hs8, Hs9, Hs10, %W', %hW', HO⟩
  ihave Hp0 := (Entails.of_eq (pts_pcK (F := F) d L _ _ _ 0 (k0_off18_eq L k) (k0_off18_inb L k) fo).symm) $$ Hp0
  ihave Hp1 := (Entails.of_eq (pts_pcK (F := F) d L _ _ _ 1 (k0_off19_eq L k) (k0_off19_inb L k) fo).symm) $$ Hp1
  ihave Hp2 := (Entails.of_eq (pts_pcK (F := F) d L _ _ _ 2 (k0_off20_eq L k) (k0_off20_inb L k) fo).symm) $$ Hp2
  ihave Hp3 := (Entails.of_eq (pts_pcK (F := F) d L _ _ _ 3 (k0_off21_eq L k) (k0_off21_inb L k) fo).symm) $$ Hp3
  ihave Hp4 := (Entails.of_eq (pts_pcK (F := F) d L _ _ _ 4 (k0_off22_eq L k) (k0_off22_inb L k) fo).symm) $$ Hp4
  ihave Hp5 := (Entails.of_eq (pts_pcK (F := F) d L _ _ _ 5 (k0_off23_eq L k) (k0_off23_inb L k) fo).symm) $$ Hp5
  ihave Hp6 := (Entails.of_eq (pts_pcK (F := F) d L _ _ _ 6 (k0_off24_eq L k) (k0_off24_inb L k) fo).symm) $$ Hp6
  ihave Hp7 := (Entails.of_eq (pts_pcK (F := F) d L _ _ _ 7 (k0_off25_eq L k) (k0_off25_inb L k) fo).symm) $$ Hp7
  sl_open_parts
  sl_exec
  ihave HI := (Entails.of_eq (row_first (F := F) d L (xCkVal L k X) (chunkOut (xCkVal L k X) fl fd) go ()).symm) $$ [Hxv Hov]
  · isplitl [Hxv]
    · iapply (Entails.of_eq (congrArg (fun f => ((xv).view.loc (thr d L) ↦{fullShare} f : sProp 𝕄)) (View.write_whole_univ cc0_scratch0 gx (xCkVal L k X)))); iexact Hxv
    iexact Hov
  repeat sl_rw [Prog.bind_assoc]
  sl_for (rowInv d L 0 (xCkVal L k X) (chunkOut (xCkVal L k X) fl fd) go) $$ [HI]
  case region => exact fun k' u => row_trip d L 0 (by decide) k'.val (k'.isLt.trans_eq rfl) _ fl fd go (k0_off2_eq k') (k0_off3_eq k') _ _ _ (fun _ => rfl) u
  · iexact HI
  iintro %_ HI
  sl_exec
  repeat sl_rw [Prog.bind_assoc]
  sl_for (rowInv d L 1 (xCkVal L k X) (chunkOut (xCkVal L k X) fl fd) go) $$ [HI]
  case region => exact fun k' u => row_trip d L 1 (by decide) k'.val (k'.isLt.trans_eq rfl) _ fl fd go (k0_off4_eq k') (k0_off5_eq k') _ _ _ (fun _ => rfl) u
  · iapply (Entails.of_eq (row_next d L 0 _ rfl _ _ _ _ _)); iexact HI
  iintro %_ HI
  sl_exec
  repeat sl_rw [Prog.bind_assoc]
  sl_for (rowInv d L 2 (xCkVal L k X) (chunkOut (xCkVal L k X) fl fd) go) $$ [HI]
  case region => exact fun k' u => row_trip d L 2 (by decide) k'.val (k'.isLt.trans_eq rfl) _ fl fd go (k0_off6_eq k') (k0_off7_eq k') _ _ _ (fun _ => rfl) u
  · iapply (Entails.of_eq (row_next d L 1 _ rfl _ _ _ _ _)); iexact HI
  iintro %_ HI
  sl_exec
  repeat sl_rw [Prog.bind_assoc]
  sl_for (rowInv d L 3 (xCkVal L k X) (chunkOut (xCkVal L k X) fl fd) go) $$ [HI]
  case region => exact fun k' u => row_trip d L 3 (by decide) k'.val (k'.isLt.trans_eq rfl) _ fl fd go (k0_off8_eq k') (k0_off9_eq k') _ _ _ (fun _ => rfl) u
  · iapply (Entails.of_eq (row_next d L 2 _ rfl _ _ _ _ _)); iexact HI
  iintro %_ HI
  sl_exec
  repeat sl_rw [Prog.bind_assoc]
  sl_for (rowInv d L 4 (xCkVal L k X) (chunkOut (xCkVal L k X) fl fd) go) $$ [HI]
  case region => exact fun k' u => row_trip d L 4 (by decide) k'.val (k'.isLt.trans_eq rfl) _ fl fd go (k0_off10_eq k') (k0_off11_eq k') _ _ _ (fun _ => rfl) u
  · iapply (Entails.of_eq (row_next d L 3 _ rfl _ _ _ _ _)); iexact HI
  iintro %_ HI
  sl_exec
  repeat sl_rw [Prog.bind_assoc]
  sl_for (rowInv d L 5 (xCkVal L k X) (chunkOut (xCkVal L k X) fl fd) go) $$ [HI]
  case region => exact fun k' u => row_trip d L 5 (by decide) k'.val (k'.isLt.trans_eq rfl) _ fl fd go (k0_off12_eq k') (k0_off13_eq k') _ _ _ (fun _ => rfl) u
  · iapply (Entails.of_eq (row_next d L 4 _ rfl _ _ _ _ _)); iexact HI
  iintro %_ HI
  sl_exec
  repeat sl_rw [Prog.bind_assoc]
  sl_for (rowInv d L 6 (xCkVal L k X) (chunkOut (xCkVal L k X) fl fd) go) $$ [HI]
  case region => exact fun k' u => row_trip d L 6 (by decide) k'.val (k'.isLt.trans_eq rfl) _ fl fd go (k0_off14_eq k') (k0_off15_eq k') _ _ _ (fun _ => rfl) u
  · iapply (Entails.of_eq (row_next d L 5 _ rfl _ _ _ _ _)); iexact HI
  iintro %_ HI
  sl_exec
  repeat sl_rw [Prog.bind_assoc]
  sl_for (rowInv d L 7 (xCkVal L k X) (chunkOut (xCkVal L k X) fl fd) go) $$ [HI]
  case region => exact fun k' u => row_trip d L 7 (by decide) k'.val (k'.isLt.trans_eq rfl) _ fl fd go (k0_off16_eq k') (k0_off17_eq k') _ _ _ (fun _ => rfl) u
  · iapply (Entails.of_eq (row_next d L 6 _ rfl _ _ _ _ _)); iexact HI
  iintro %_ HI
  ihave HI := (Entails.of_eq (row_next (F := F) d L 7 (Scf.trips k0_t9_loop.lb k0_t9_loop.ub k0_t9_loop.st) rfl _ _ _ _ ())) $$ HI
  ihave HI := (Entails.of_eq (row_last (F := F) d L _ _ _ ())) $$ HI
  icases HI with ⟨Hxv, Hov⟩
  sl_exec
  sl_step
  isplitl [Hmw]; · iexact Hmw
  isplitl [Hx]; · iexact Hx
  isplitl [Hp0 Hp1 Hp2 Hp3 Hp4 Hp5 Hp6 Hp7 Hrest]
  · isplitr [Hrest]
    swap; · iexact Hrest
    isplitl [Hp0]
    · iapply (Entails.of_eq (piece_done d L _ _ _ 0 (k0_off18_eq L k) (k0_off18_inb L k) (o' := ![0, 0]) rfl (by decide) X (xCkVal L k X) fl fd fo (xCkVal_apply L k X))); iexact Hp0
    isplitl [Hp1]
    · iapply (Entails.of_eq (piece_done d L _ _ _ 1 (k0_off19_eq L k) (k0_off19_inb L k) (o' := ![1, 0]) rfl (by decide) X (xCkVal L k X) fl fd fo (xCkVal_apply L k X))); iexact Hp1
    isplitl [Hp2]
    · iapply (Entails.of_eq (piece_done d L _ _ _ 2 (k0_off20_eq L k) (k0_off20_inb L k) (o' := ![2, 0]) rfl (by decide) X (xCkVal L k X) fl fd fo (xCkVal_apply L k X))); iexact Hp2
    isplitl [Hp3]
    · iapply (Entails.of_eq (piece_done d L _ _ _ 3 (k0_off21_eq L k) (k0_off21_inb L k) (o' := ![3, 0]) rfl (by decide) X (xCkVal L k X) fl fd fo (xCkVal_apply L k X))); iexact Hp3
    isplitl [Hp4]
    · iapply (Entails.of_eq (piece_done d L _ _ _ 4 (k0_off22_eq L k) (k0_off22_inb L k) (o' := ![4, 0]) rfl (by decide) X (xCkVal L k X) fl fd fo (xCkVal_apply L k X))); iexact Hp4
    isplitl [Hp5]
    · iapply (Entails.of_eq (piece_done d L _ _ _ 5 (k0_off23_eq L k) (k0_off23_inb L k) (o' := ![5, 0]) rfl (by decide) X (xCkVal L k X) fl fd fo (xCkVal_apply L k X))); iexact Hp5
    isplitl [Hp6]
    · iapply (Entails.of_eq (piece_done d L _ _ _ 6 (k0_off24_eq L k) (k0_off24_inb L k) (o' := ![6, 0]) rfl (by decide) X (xCkVal L k X) fl fd fo (xCkVal_apply L k X))); iexact Hp6
    iapply (Entails.of_eq (piece_done d L _ _ _ 7 (k0_off25_eq L k) (k0_off25_inb L k) (o' := ![7, 0]) rfl (by decide) X (xCkVal L k X) fl fd fo (xCkVal_apply L k X))); iexact Hp7
  isplitl [Hxv]; · iexists _; iexact Hxv
  isplitl [Hov]; · iexists _; iexact Hov
  isplitl [Hlv]; · iexact Hlv
  isplitl [Hdv]; · iexact Hdv
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Chunk

end Cert.Proof.Task

end
-- ==== Proof.Launch.lean ====
/-
  The call: both SparseCores, sixteen vector subcores each. Every task reads the points, the boundary table and the
  increment table at a share of its own and owns the pieces of the result it writes; the call gathers the pieces into the
  whole result.
-/
module

public import proofs.«01_k».proof.Proof.Task
public import Idealize.ShloMosaic.Lib.ShareLeaves

@[expose] public section

noncomputable section

namespace Cert.Proof.Launch

open Cert.KernelIdeal Cert.KernelIdeal.Gen
open Cert.Proof.Rows Cert.Proof.Pieces Cert.Proof.Task

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds, the left factor of the proof's own state. -/
abbrev EH : Emb UH (MT nD τ sig (HIx 1) (Elt F) ℕ UU ℕ) := embL

local notation "xA" => (Memref.whole Cert.KernelIdeal.main_arg0_scv : Memref Cert.KernelIdeal.sig Kind.scVector Space.hbm Cert.KernelIdeal.S2097152 EltTy.f32)
local notation "lA" => (Memref.whole Cert.KernelIdeal.main_v14_scv : Memref Cert.KernelIdeal.sig Kind.scVector Space.hbm Cert.KernelIdeal.S8x10x16 EltTy.f32)
local notation "dA" => (Memref.whole Cert.KernelIdeal.main_v16_scv : Memref Cert.KernelIdeal.sig Kind.scVector Space.hbm Cert.KernelIdeal.S8x10x16 EltTy.f32)
local notation "oA" => (Memref.whole Cert.KernelIdeal.main_v17_scv : Memref Cert.KernelIdeal.sig Kind.scVector Space.hbm Cert.KernelIdeal.S8x2097152 EltTy.f32)
local notation "xv" => (Memref.whole Cert.KernelIdeal.cc0_scratch0 : Memref Cert.KernelIdeal.sig Kind.scVector Space.vmem Cert.KernelIdeal.S8192 EltTy.f32)
local notation "ov" => (Memref.whole Cert.KernelIdeal.cc0_scratch1 : Memref Cert.KernelIdeal.sig Kind.scVector Space.vmem Cert.KernelIdeal.S8x8192 EltTy.f32)
local notation "lv" => (Memref.whole Cert.KernelIdeal.cc0_scratch2 : Memref Cert.KernelIdeal.sig Kind.scVector Space.vmem Cert.KernelIdeal.S8x10x16 EltTy.f32)
local notation "dv" => (Memref.whole Cert.KernelIdeal.cc0_scratch3 : Memref Cert.KernelIdeal.sig Kind.scVector Space.vmem Cert.KernelIdeal.S8x10x16 EltTy.f32)

abbrev xLoc (d : Dev nD) : Loc nD τ sig := (SparseCore.T d).loc main_arg0
abbrev lLoc (d : Dev nD) : Loc nD τ sig := (SparseCore.T d).loc main_v14
abbrev dLoc (d : Dev nD) : Loc nD τ sig := (SparseCore.T d).loc main_v16

/-- The share of task `(c, i)`: the full share halved once for the SparseCores, four times for their subcores. -/
abbrev cq (c : Fin 2) : PosShare TreeShare := leaf 1 fullShare c
abbrev tq (c : Fin 2) (i : Fin 16) : PosShare TreeShare := leaf 4 (cq c) i

variable [FloatOps F]

-- what the call finds in the four arrays: the points, the boundary table, the increment table, the result's array
variable (X : (d : Dev nD) → Buf (Elt F) (xLoc d)) (Lt : (d : Dev nD) → Buf (Elt F) (lLoc d)) (Dt : (d : Dev nD) → Buf (Elt F) (dLoc d))
  (O₀ : (d : Dev nD) → Buf (Elt F) (oLoc d))

/-- The result on device `d`. -/
abbrev res (d : Dev nD) : Buf (Elt F) (oLoc d) := outV (X d) (Lt d) (Dt d)

/-- What one task holds, the result's pieces at `f`; what one SparseCore holds; what the call holds. -/
abbrev taskPts (d : Dev nD) (c : Fin 2) (i : Fin 16) (f : Buf (Elt F) (oLoc d)) : sProp 𝕄 :=
  iprop((xLoc d ↦{tq c i} X d) ∗ (lLoc d ↦{tq c i} Lt d) ∗ (dLoc d ↦{tq c i} Dt d) ∗ tilePcs d c.val i.val f)
abbrev corePts (d : Dev nD) (c : Fin 2) (f : Buf (Elt F) (oLoc d)) : sProp 𝕄 :=
  iprop((xLoc d ↦{cq c} X d) ∗ (lLoc d ↦{cq c} Lt d) ∗ (dLoc d ↦{cq c} Dt d) ∗ bigSep Finset.univ fun i : Fin 16 => tilePcs d c.val i.val f)
abbrev callPts (d : Dev nD) (f : Buf (Elt F) (oLoc d)) : sProp 𝕄 :=
  iprop((xLoc d ↦{fullShare} X d) ∗ (lLoc d ↦{fullShare} Lt d) ∗ (dLoc d ↦{fullShare} Dt d) ∗ oLoc d ↦{fullShare} f)

theorem core_tasks (d : Dev nD) (c : Fin 2) (f : Buf (Elt F) (oLoc d)) :
    (corePts X Lt Dt d c f : sProp 𝕄) = bigSep Finset.univ fun i : Fin 16 => taskPts X Lt Dt d c i f := by
  unfold corePts taskPts
  rw [bigSep_sep', bigSep_sep', bigSep_sep', pointsTo_leaves Finset.univ (X d) 4 (cq c), pointsTo_leaves Finset.univ (Lt d) 4 (cq c),
    pointsTo_leaves Finset.univ (Dt d) 4 (cq c)]
  rfl

theorem call_cores (d : Dev nD) (f : Buf (Elt F) (oLoc d)) :
    (callPts X Lt Dt d f : sProp 𝕄) = bigSep Finset.univ fun c : Fin 2 => corePts X Lt Dt d c f := by
  unfold callPts corePts
  rw [bigSep_sep', bigSep_sep', bigSep_sep', pointsTo_leaves Finset.univ (X d) 1 fullShare, pointsTo_leaves Finset.univ (Lt d) 1 fullShare,
    pointsTo_leaves Finset.univ (Dt d) 1 fullShare, out_pieces]
  rfl

/-! ## What the handshakes carry -/

instance tilePcs_storable (d : Dev nD) (c i : ℕ) (f : Buf (Elt F) (oLoc d)) : BI.Storable (upEmb : UEmb _ 𝕄) (tilePcs d c i f) := by
  unfold tilePcs; infer_instance

def P : (K (F := F)).Pay (nD := nD) (Val := Elt F) (Name := ℕ) (U := UU) where
  st := fun q d c => match q with | 0 => corePts X Lt Dt d (Fin.cast nCore_zero c) (O₀ d)
  dn := fun q d c => match q with | 0 => corePts X Lt Dt d (Fin.cast nCore_zero c) (res X Lt Dt d)
  go := fun q d c i => match q with | 0 => taskPts X Lt Dt d (Fin.cast nCore_zero c) (Fin.cast nSub_zero i) (O₀ d)
  td := fun q d c i => match q with | 0 => taskPts X Lt Dt d (Fin.cast nCore_zero c) (Fin.cast nSub_zero i) (res X Lt Dt d)
  x := fun _ _ => iprop(emp)

instance P_storable : (P (F := F) X Lt Dt O₀).IsStorable where
  st q d c := match q with
    | 0 => (inferInstance : BI.Storable (upEmb : UEmb _ 𝕄) (corePts X Lt Dt d (Fin.cast nCore_zero c) (O₀ d)))
  dn q d c := match q with
    | 0 => (inferInstance : BI.Storable (upEmb : UEmb _ 𝕄) (corePts X Lt Dt d (Fin.cast nCore_zero c) (res X Lt Dt d)))
  go q d c i := match q with
    | 0 => (inferInstance : BI.Storable (upEmb : UEmb _ 𝕄) (taskPts X Lt Dt d (Fin.cast nCore_zero c) (Fin.cast nSub_zero i) (O₀ d)))
  td q d c i := match q with
    | 0 => (inferInstance : BI.Storable (upEmb : UEmb _ 𝕄) (taskPts X Lt Dt d (Fin.cast nCore_zero c) (Fin.cast nSub_zero i) (res X Lt Dt d)))

/-! ## The task -/

section Tile

variable (d : Dev nD) (L : grid0.Coords)

theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

/-- Of a separating conjunction the conjuncts at the images of `t` stand apart. -/
theorem bigSep_apart {I J : Type} [DecidableEq I] [DecidableEq J] {s : Finset I} {t : Finset J} {f : J → I} (inj : Set.InjOn f t)
    (sub : ∀ j ∈ t, f j ∈ s) (Φ : I → sProp 𝕄) :
    bigSep s Φ = iprop(bigSep t (fun j => Φ (f j)) ∗ bigSep (s \ t.image f) Φ) := by
  have h : t.image f ⊆ s := fun x h => by obtain ⟨j, hj, rfl⟩ := Finset.mem_image.mp h; exact sub j hj
  rw [SparseCore.bigSep_sdiff_split' h, bigSep_image_of_injOn inj]

/-- The copies' semaphores, and the scratch buffers. -/
abbrev cells : Finset (SemLoc sig) :=
  {SemLoc.dma cc0_scoped0.sem, SemLoc.dma cc0_scoped1.sem, SemLoc.dma cc0_scoped2.sem, SemLoc.dma cc0_scoped3.sem, SemLoc.dma cc0_scoped4.sem,
    SemLoc.dma cc0_scoped5.sem, SemLoc.dma cc0_scoped6.sem, SemLoc.dma cc0_scoped7.sem, SemLoc.dma cc0_scoped8.sem, SemLoc.dma cc0_scoped9.sem,
    SemLoc.dma cc0_scoped10.sem}
abbrev bufs : Finset (Ref sig .scVector) := {cc0_scratch0, cc0_scratch1, cc0_scratch2, cc0_scratch3}

theorem ownSems0_V :
    (ownSems0 (thr d L) : sProp 𝕄)
      = iprop((semVal (thr d L, SemLoc.dma cc0_scoped0.sem) 0 ∗ semVal (thr d L, SemLoc.dma cc0_scoped1.sem) 0 ∗ semVal (thr d L, SemLoc.dma cc0_scoped2.sem) 0
          ∗ semVal (thr d L, SemLoc.dma cc0_scoped3.sem) 0 ∗ semVal (thr d L, SemLoc.dma cc0_scoped4.sem) 0 ∗ semVal (thr d L, SemLoc.dma cc0_scoped5.sem) 0
          ∗ semVal (thr d L, SemLoc.dma cc0_scoped6.sem) 0 ∗ semVal (thr d L, SemLoc.dma cc0_scoped7.sem) 0 ∗ semVal (thr d L, SemLoc.dma cc0_scoped8.sem) 0
          ∗ semVal (thr d L, SemLoc.dma cc0_scoped9.sem) 0 ∗ semVal (thr d L, SemLoc.dma cc0_scoped10.sem) 0)
        ∗ bigSep (ownCells (thr d L) \ cells.image (fun s => (thr d L, s))) fun g => semVal g 0) := by
  unfold SparseCore.Cfg.ownSems0
  have hs : ∀ s ∈ cells, s.isScoped .scVector = true := by decide
  rw [bigSep_apart (t := cells) (f := fun s => ((thr d L, s) : GSem nD τ sig)) (fun a _ b _ e => (Prod.mk.inj e).2)
    (fun s h => mem_ownCells.mpr ⟨rfl, hs s h⟩)]
  unfold cells
  iterate 10 rw [SparseCore.bigSep_insert' (by decide)]
  rw [bigSep_singleton]

theorem ownBufs_V :
    (ownBufs (thr d L) : sProp 𝕄)
      = iprop(((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f))
        ∗ bigSep (ownRefs (τ := τ) (.scVector (cV L) (jV L)) \ bufs.image (fun b => (Proc.scVector (cV L) (jV L)).devRef b))
            fun b => iprop(∃ f, ((d, b) : Loc nD τ sig) ↦{fullShare} f)) := by
  unfold SparseCore.Cfg.ownBufs
  have hs : ∀ b ∈ bufs, ((Proc.scVector (cV L) (jV L)).devRef b : DevRef τ sig).owner = .proc (Proc.scVector (cV L) (jV L)) := by
    simp only [bufs, Finset.mem_insert, Finset.mem_singleton]
    rintro b (rfl | rfl | rfl | rfl) <;> rfl
  rw [bigSep_apart (s := ownRefs (τ := τ) (.scVector (cV L) (jV L))) (t := bufs) (f := fun b => (Proc.scVector (cV L) (jV L)).devRef b)
    (fun a _ b _ e => Proc.devRef_injective _ e)
    (fun b h => SparseCore.Cfg.mem_ownRefs_of_owner (hs b h))]
  unfold bufs
  iterate 3 rw [SparseCore.bigSep_insert' (by decide)]
  rw [bigSep_singleton]

set_option maxHeartbeats 4000000 in
/-- The task on vector subcore `(L 0, L 1)` of device `d`: the two tables fetched, then the eight chunks. -/
theorem tile_body (hF : (K (F := F)).Facts) (O : CellTallies nD τ sig (HIx 1)) (W : Waits sig (HIx 1)) (hO : ∀ g, O g none = 0) :
    iprop(levAts (K (F := F)).L (K (F := F)).lev ∗ emp ∗ taskPts X Lt Dt d (cL L) (iL L) (O₀ d)
        ∗ scopedBufs (thr d L) ∗ scopedSems0 (thr d L) ∗ owes (thr d L) O W)
      ⊢ wp frame (wpE (defs₀ (F := F)) 𝒱₀ (thr d L) none) Set.univ
          (cc0_k L xA (Memref.isWhole_whole _) lA (Memref.isWhole_whole _) dA (Memref.isWhole_whole _) oA (Memref.isWhole_whole _)
            xv (Memref.isWhole_whole _) ov (Memref.isWhole_whole _) lv (Memref.isWhole_whole _) dv (Memref.isWhole_whole _)
            cc0_scoped0 cc0_scoped1 cc0_scoped2 cc0_scoped3 cc0_scoped4 cc0_scoped5 cc0_scoped6 cc0_scoped7 cc0_scoped8 cc0_scoped9 cc0_scoped10)
          fun _ => iprop(taskPts X Lt Dt d (cL L) (iL L) (res X Lt Dt d)
            ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlev, -, ⟨Hx, Hl, Hd, Ho⟩, ⟨⟨⟨%gx, Hxv⟩, ⟨%go, Hov⟩, ⟨%gl, Hlv⟩, ⟨%gd, Hdv⟩⟩, Hbufs⟩, ⟨⟨Hs0, Hs1, Hs2, Hs3, Hs4, Hs5, Hs6, Hs7, Hs8, Hs9, Hs10⟩, Hsems⟩, HO⟩
  ihave Hmw := (show levAts (K (F := F)).L (K (F := F)).lev ⊢ Transfers.MayWaits (thr d L) (default : HIx 1) O from
    (K (F := F)).mayWaits_none (thr := thr d L) hO) $$ Hlev
  ihave Hx := (show (xLoc d ↦{tq (cL L) (iL L)} X d : sProp 𝕄) ⊢ (xA).view.loc (thr d L) ↦{tq (cL L) (iL L)} X d from .rfl) $$ Hx
  ihave Hl := (show (lLoc d ↦{tq (cL L) (iL L)} Lt d : sProp 𝕄) ⊢ (lA).view.loc (thr d L) ↦{tq (cL L) (iL L)} Lt d from .rfl) $$ Hl
  ihave Hd := (show (dLoc d ↦{tq (cL L) (iL L)} Dt d : sProp 𝕄) ⊢ (dA).view.loc (thr d L) ↦{tq (cL L) (iL L)} Dt d from .rfl) $$ Hd
  ihave Hxv := (show ((thr d L).loc cc0_scratch0 ↦{fullShare} gx : sProp 𝕄) ⊢ (xv).view.loc (thr d L) ↦{fullShare} gx from .rfl) $$ Hxv
  ihave Hov := (show ((thr d L).loc cc0_scratch1 ↦{fullShare} go : sProp 𝕄) ⊢ (ov).view.loc (thr d L) ↦{fullShare} go from .rfl) $$ Hov
  ihave Hlv := (show ((thr d L).loc cc0_scratch2 ↦{fullShare} gl : sProp 𝕄) ⊢ (lv).view.loc (thr d L) ↦{fullShare} gl from .rfl) $$ Hlv
  ihave Hdv := (show ((thr d L).loc cc0_scratch3 ↦{fullShare} gd : sProp 𝕄) ⊢ (dv).view.loc (thr d L) ↦{fullShare} gd from .rfl) $$ Hdv
  sl_exec
  sl_for (chunkInv d L (tq (cL L) (iL L)) (X d) (Lt d) (Dt d) (O₀ d) O W) $$ [Hmw Hx Ho Hxv Hov Hlv Hdv Hs2 Hs3 Hs4 Hs5 Hs6 Hs7 Hs8 Hs9 Hs10 HO]
  case region => exact fun k u => chunk_trip d L _ _ _ _ _ k O W u _
  · unfold chunkInv
    isplitl [Hmw]; · iexact Hmw
    isplitl [Hx]; · iexact Hx
    isplitl [Ho]; · rw [tileAt_zero]; iexact Ho
    isplitl [Hxv]; · iexists _; iexact Hxv
    isplitl [Hov]; · iexists _; iexact Hov
    isplitl [Hlv]
    · iapply (Entails.of_eq (congrArg (fun f => ((lv).view.loc (thr d L) ↦{fullShare} f : sProp 𝕄)) (View.write_whole_univ cc0_scratch2 gl (Lt d)))); iexact Hlv
    isplitl [Hdv]
    · iapply (Entails.of_eq (congrArg (fun f => ((dv).view.loc (thr d L) ↦{fullShare} f : sProp 𝕄)) (View.write_whole_univ cc0_scratch3 gd (Dt d)))); iexact Hdv
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %_ HI
  unfold chunkInv
  icases HI with ⟨-, Hx, Ho, ⟨%gx', Hxv⟩, ⟨%go', Hov⟩, Hlv, Hdv, Hs2, Hs3, Hs4, Hs5, Hs6, Hs7, Hs8, Hs9, Hs10, %W', %hW', HO⟩
  ihave Ho := (show (tileAt d (L 0).val (L 1).val (O₀ d) (outV (X d) (Lt d) (Dt d)) (Scf.trips k0_t1_loop.lb k0_t1_loop.ub k0_t1_loop.st) : sProp 𝕄)
      ⊢ tilePcs d (L 0).val (L 1).val (outV (X d) (Lt d) (Dt d)) from
    Entails.of_eq (tileAt_last (F := F) d (L 0).val (L 1).val (O₀ d) (outV (X d) (Lt d) (Dt d)))) $$ Ho
  sl_exec
  sl_step
  isplitl [Hx Hl Hd Ho]
  · isplitl [Hx]; · iexact Hx
    isplitl [Hl]; · iexact Hl
    isplitl [Hd]; · iexact Hd
    iexact Ho
  isplitl [Hxv Hov Hlv Hdv Hbufs]
  · isplitr [Hbufs]
    swap; · iexact Hbufs
    isplitl [Hxv]; · iexists _; iexact Hxv
    isplitl [Hov]; · iexists _; iexact Hov
    isplitl [Hlv]; · iexists _; iexact Hlv
    iexists _; iexact Hdv
  isplitl [Hs0 Hs1 Hs2 Hs3 Hs4 Hs5 Hs6 Hs7 Hs8 Hs9 Hs10 Hsems]
  · isplitr [Hsems]
    swap; · iexact Hsems
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hs10
  iexists W'; isplitr
  · ipureintro; exact hW'
  · iexact HO

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xA (Memref.isWhole_whole _) lA (Memref.isWhole_whole _) dA (Memref.isWhole_whole _) oA (Memref.isWhole_whole _)
          xv (Memref.isWhole_whole _) ov (Memref.isWhole_whole _) lv (Memref.isWhole_whole _) dv (Memref.isWhole_whole _)
          cc0_scoped0 cc0_scoped1 cc0_scoped2 cc0_scoped3 cc0_scoped4 cc0_scoped5 cc0_scoped6 cc0_scoped7 cc0_scoped8 cc0_scoped9 cc0_scoped10) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P X Lt Dt O₀) v₀ 0 := by
  intro d c i O W hO _ _
  simp only [show (P X Lt Dt O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X Lt Dt O₀ d (coordsV ⟨_, hci.1⟩ ⟨_, hci.2⟩) hF O W hO).trans (wp_mono frame _ _ fun _ => obl_post)

/-! ## The split of a SparseCore's share among its tasks -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P X Lt Dt O₀) 0 := by
  intro d c
  show corePts X Lt Dt d (Fin.cast nCore_zero c) (O₀ d) ⊢ |={Set.univ}=> iprop(
      (bigSep Finset.univ fun i : Fin ((K (F := F)).nSub 0) => taskPts X Lt Dt d (Fin.cast nCore_zero c) (Fin.cast nSub_zero i) (O₀ d))
      ∗ ((bigSep Finset.univ fun i : Fin ((K (F := F)).nSub 0) => taskPts X Lt Dt d (Fin.cast nCore_zero c) (Fin.cast nSub_zero i) (res X Lt Dt d))
          -∗ corePts X Lt Dt d (Fin.cast nCore_zero c) (res X Lt Dt d)))
  rw [bigSep_tasks (F := F) (fun i => taskPts X Lt Dt d (Fin.cast nCore_zero c) i (O₀ d)),
    bigSep_tasks (F := F) (fun i => taskPts X Lt Dt d (Fin.cast nCore_zero c) i (res X Lt Dt d)), ← core_tasks, ← core_tasks]
  iintro H; imodintro
  isplitl [H]; · iexact H
  iintro H; iexact H

theorem st0_eq (d : Dev nD) : (bigSep Finset.univ fun c : Fin ((K (F := F)).nCore 0) => (P X Lt Dt O₀).st 0 d c) = callPts X Lt Dt d (O₀ d) :=
  (bigSep_cores (F := F) (fun c => corePts X Lt Dt d c (O₀ d))).trans (call_cores X Lt Dt d (O₀ d)).symm
theorem dn0_eq (d : Dev nD) : (bigSep Finset.univ fun c : Fin ((K (F := F)).nCore 0) => (P X Lt Dt O₀).dn 0 d c) = callPts X Lt Dt d (res X Lt Dt d) :=
  (bigSep_cores (F := F) (fun c => corePts X Lt Dt d c (res X Lt Dt d))).trans (call_cores X Lt Dt d (res X Lt Dt d)).symm

/-! ## The launch element of the proof's own state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X Lt Dt O₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) X Lt Dt O₀).x q thr) = bigSep Finset.univ fun _ => iprop(emp) from
    bigSep_congr fun _ _ => bigSep_univ_of_subsingleton (0 : Fin 1), bigSep_emp']
  iempintro

end Cert.Proof.Launch

end
-- ==== Proof.Main.lean ====
/-
  The whole program: the host operations that lay out the two tables, the SparseCore call, the host operation that gives the
  result its last axis. The run states what the result holds and that the arguments are unchanged, for any float values.
-/
module

public import proofs.«01_k».proof.Proof.Launch
public import Idealize.ShloMosaic.Lib.StableHlo.Run
public import Idealize.ShloMosaic.Lib.SparseCore.Quiescent

@[expose] public section

noncomputable section

namespace Cert.Proof.Main

open Cert.KernelIdeal Cert.KernelIdeal.Gen
open Cert.Proof.Rows Cert.Proof.Pieces Cert.Proof.Task Cert.Proof.Launch

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

local notation "𝕄" => MT nD τ sig (HIx 1) (Elt F) ℕ UU ℕ

/-! ## The host operations -/

/-- The operations before the call, in order: the two tables. -/
abbrev hostOps : List (HloOp τ sig (Elt F)) :=
  [ StableHlo.unary main_arg2 main_v0 ((extractStridedSlice S8x1 ![0, 8] · slices_S8x9_S8x1_0_8) : (⟨S8x9, .f32⟩ : BufTy).Contents (Elt F) → (⟨S8x1, .f32⟩ : BufTy).Contents (Elt F)),
    StableHlo.reshape main_v0 main_v1 (rfl : (.f32 : EltTy) = .f32) shapeCasts_S8x1_S8,
    StableHlo.unary main_arg2 main_v2 ((extractStridedSlice S8x1 ![0, 0] · slices_S8x9_S8x1_0_0) : (⟨S8x9, .f32⟩ : BufTy).Contents (Elt F) → (⟨S8x1, .f32⟩ : BufTy).Contents (Elt F)),
    StableHlo.reshape main_v2 main_v3 (rfl : (.f32 : EltTy) = .f32) shapeCasts_S8x1_S8,
    StableHlo.binary main_v3 main_v1 main_v4 (subf : (⟨S8, .f32⟩ : BufTy).Contents (Elt F) → (⟨S8, .f32⟩ : BufTy).Contents (Elt F) → (⟨S8, .f32⟩ : BufTy).Contents (Elt F)),
    StableHlo.unary main_arg2 main_v5 ((extractStridedSlice S8x8 ![0, 1] · slices_S8x9_S8x8_0_1) : (⟨S8x9, .f32⟩ : BufTy).Contents (Elt F) → (⟨S8x8, .f32⟩ : BufTy).Contents (Elt F)),
    StableHlo.unary main_arg2 main_v6 ((extractStridedSlice S8x8 ![0, 0] · slices_S8x9_S8x8_0_0) : (⟨S8x9, .f32⟩ : BufTy).Contents (Elt F) → (⟨S8x8, .f32⟩ : BufTy).Contents (Elt F)),
    StableHlo.binary main_v5 main_v6 main_v7 (subf : (⟨S8x8, .f32⟩ : BufTy).Contents (Elt F) → (⟨S8x8, .f32⟩ : BufTy).Contents (Elt F) → (⟨S8x8, .f32⟩ : BufTy).Contents (Elt F)),
    StableHlo.unary main_v1 main_v8 (broadcastInDim S8x1 ![0] bcast_S8_S8x1_0 : (⟨S8, .f32⟩ : BufTy).Contents (Elt F) → (⟨S8x1, .f32⟩ : BufTy).Contents (Elt F)),
    StableHlo.unary main_v4 main_v9 (broadcastInDim S8x1 ![0] bcast_S8_S8x1_0 : (⟨S8, .f32⟩ : BufTy).Contents (Elt F) → (⟨S8x1, .f32⟩ : BufTy).Contents (Elt F)),
    StableHlo.nary ![main_v8, main_v9, main_v7] main_v10 (fun u => (concatenate S8x10 1 [⟨S8x1, (u 0 : (⟨S8x1, .f32⟩ : BufTy).Contents (Elt F))⟩, ⟨S8x1, (u 1 : (⟨S8x1, .f32⟩ : BufTy).Contents (Elt F))⟩, ⟨S8x8, (u 2 : (⟨S8x8, .f32⟩ : BufTy).Contents (Elt F))⟩] concatenates_S8x1_S8x1_S8x8_S8x10_d1 : (⟨S8x10, .f32⟩ : BufTy).Contents (Elt F))),
    StableHlo.nullary main_cst (constant S_ .f32 0xBF800000#32),
    StableHlo.unary main_cst main_v11 (broadcastInDim S8x1 ![] bcast_S_S8x1 : (⟨S_, .f32⟩ : BufTy).Contents (Elt F) → (⟨S8x1, .f32⟩ : BufTy).Contents (Elt F)),
    StableHlo.binary main_v11 main_arg1 main_v12 ((fun a b => concatenate S8x10 1 [⟨S8x1, a⟩, ⟨S8x9, b⟩] concatenates_S8x1_S8x9_S8x10_d1) : (⟨S8x1, .f32⟩ : BufTy).Contents (Elt F) → (⟨S8x9, .f32⟩ : BufTy).Contents (Elt F) → (⟨S8x10, .f32⟩ : BufTy).Contents (Elt F)),
    StableHlo.unary main_v12 main_v13 (broadcastInDim S8x10x1 ![0, 1] bcast_S8x10_S8x10x1_0_1 : (⟨S8x10, .f32⟩ : BufTy).Contents (Elt F) → (⟨S8x10x1, .f32⟩ : BufTy).Contents (Elt F)),
    StableHlo.unary main_v13 main_v14 (broadcastInDim S8x10x16 ![0, 1, 2] bcast_S8x10x1_S8x10x16_0_1_2 : (⟨S8x10x1, .f32⟩ : BufTy).Contents (Elt F) → (⟨S8x10x16, .f32⟩ : BufTy).Contents (Elt F)),
    StableHlo.unary main_v10 main_v15 (broadcastInDim S8x10x1 ![0, 1] bcast_S8x10_S8x10x1_0_1 : (⟨S8x10, .f32⟩ : BufTy).Contents (Elt F) → (⟨S8x10x1, .f32⟩ : BufTy).Contents (Elt F)),
    StableHlo.unary main_v15 main_v16 (broadcastInDim S8x10x16 ![0, 1, 2] bcast_S8x10x1_S8x10x16_0_1_2 : (⟨S8x10x1, .f32⟩ : BufTy).Contents (Elt F) → (⟨S8x10x16, .f32⟩ : BufTy).Contents (Elt F)) ]

/-- The operation after the call: the result's last axis. -/
abbrev opLast : HloOp τ sig (Elt F) :=
  StableHlo.unary main_v17 main_v18 (broadcastInDim S8x2097152x1 ![0, 1] bcast_S8x2097152_S8x2097152x1_0_1 : (⟨S8x2097152, .f32⟩ : BufTy).Contents (Elt F) → (⟨S8x2097152x1, .f32⟩ : BufTy).Contents (Elt F))

theorem main_split (d : Dev nD) :
    main (F := F) d = (seq hostOps >>= fun _ => (sc (F := F)).run d 0 >>= fun _ => hlo rfl opLast fun _ => .ret ⟨⟩) := rfl

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev l' : DevRef τ sig := Proc.devRef .tc (main_v14 : Ref sig .tc)
abbrev d' : DevRef τ sig := Proc.devRef .tc (main_v16 : Ref sig .tc)
abbrev o' : DevRef τ sig := Proc.devRef .tc (main_v17 : Ref sig .tc)
abbrev r' : DevRef τ sig := Proc.devRef .tc (main_v18 : Ref sig .tc)

abbrev aLoc1 (d : Dev nD) : Loc nD τ sig := (SparseCore.T d).loc main_arg1
abbrev aLoc2 (d : Dev nD) : Loc nD τ sig := (SparseCore.T d).loc main_arg2
abbrev rLoc (d : Dev nD) : Loc nD τ sig := (SparseCore.T d).loc main_v18

/-- A device's arrays at launch, after the host operations, after the call, at the end. -/
def V0 (d : Dev nD) : Valuation τ sig (Elt F) := fun b => m (d, b)
def V1 (d : Dev nD) : Valuation τ sig (Elt F) := after hostOps (V0 m d)
/-- What the call computes. -/
def callOut (d : Dev nD) : Buf (Elt F) (oLoc d) := res (fun d => V1 m d a0') (fun d => V1 m d l') (fun d => V1 m d d') d
def V2 (d : Dev nD) : Valuation τ sig (Elt F) := Function.update (V1 m d) o' (callOut m d)
def V3 (d : Dev nD) : Valuation τ sig (Elt F) := (opLast (F := F)).result (V2 m d)

/-- The program's result. -/
def out (d : Dev nD) : Buf (Elt F) (rLoc d) :=
  (broadcastInDim S8x2097152x1 ![0, 1] bcast_S8x2097152_S8x2097152x1_0_1 : (⟨S8x2097152, .f32⟩ : BufTy).Contents (Elt F) → (⟨S8x2097152x1, .f32⟩ : BufTy).Contents (Elt F)) (callOut m d)

theorem not_scoped : (Finset.univ.filter fun b : Ref sig .tc => ¬ b.isScoped) = Finset.univ := by decide

theorem unscoped_held (d : Dev nD) : (unscopedBufs d (fun b => m ((SparseCore.T d).loc b)) : sProp 𝕄) = held (T d) (tcRefs τ sig) (V0 m d) := by
  unfold unscopedBufs held tcRefs
  rw [not_scoped, Finset.map_eq_image]
  exact (bigSep_image_of_injOn (s := Finset.univ) (f := fun b : Ref sig .tc => Proc.devRef (sig := sig) (.tc : Proc τ) b)
    (fun a _ b _ e => Proc.devRef_injective _ e) (fun b => ((d, b) : Loc nD τ sig) ↦{fullShare} V0 m d b)).symm

/-- The call's four arrays, and the rest. -/
abbrev S4 : Finset (DevRef τ sig) := {a0', l', d', o'}
theorem S4_sub : S4 ⊆ tcRefs τ sig := by
  intro b hb; simp only [S4, Finset.mem_insert, Finset.mem_singleton] at hb
  rcases hb with rfl | rfl | rfl | rfl <;> exact devRef_mem_tcRefs _

theorem held_S4 (d : Dev nD) (W : Valuation τ sig (Elt F)) :
    (held (T d) S4 W : sProp 𝕄) = iprop((xLoc d ↦{fullShare} W a0') ∗ (lLoc d ↦{fullShare} W l') ∗ (dLoc d ↦{fullShare} W d') ∗ oLoc d ↦{fullShare} W o') := by
  unfold held S4
  iterate 3 rw [SparseCore.bigSep_insert' (by decide)]
  rw [bigSep_singleton]

theorem held_call (d : Dev nD) :
    (held (T d) (tcRefs τ sig) (V1 m d) : sProp 𝕄)
      = iprop(callPts (fun d => V1 m d a0') (fun d => V1 m d l') (fun d => V1 m d d') d (V1 m d o') ∗ held (T d) (tcRefs τ sig \ S4) (V1 m d)) := by
  rw [held_sub_split _ S4_sub, held_S4]

theorem held_back (d : Dev nD) :
    (held (T d) (tcRefs τ sig) (V2 m d) : sProp 𝕄)
      = iprop(callPts (fun d => V1 m d a0') (fun d => V1 m d l') (fun d => V1 m d d') d (callOut m d) ∗ held (T d) (tcRefs τ sig \ S4) (V1 m d)) := by
  have ho : V2 m d o' = callOut m d := Function.update_self _ _ _
  have h (b : DevRef τ sig) (hb : b ≠ o') : V2 m d b = V1 m d b := Function.update_of_ne hb _ _
  rw [held_sub_split _ S4_sub, held_S4, ho, h a0' (by decide), h l' (by decide), h d' (by decide),
    held_congr (V' := V1 m d) _ (fun b hb => h b fun e => (Finset.mem_sdiff.mp hb).2 (by rw [e]; decide))]

/-- The arrays that the claim speaks of. -/
abbrev R4 : Finset (DevRef τ sig) := {a0', a1', a2', r'}
theorem R4_sub : R4 ⊆ tcRefs τ sig := by
  intro b hb; simp only [R4, Finset.mem_insert, Finset.mem_singleton] at hb
  rcases hb with rfl | rfl | rfl | rfl <;> exact devRef_mem_tcRefs _

/-- No host operation writes an argument. -/
theorem V1_arg (d : Dev nD) {b : Ref sig .tc}
    (hb : b ∉ ([main_v0, main_v1, main_v2, main_v3, main_v4, main_v5, main_v6, main_v7, main_v8, main_v9, main_v10, main_cst, main_v11, main_v12,
      main_v13, main_v14, main_v15, main_v16] : List (Ref sig .tc))) : V1 m d (Proc.devRef .tc b) = m (d, Proc.devRef .tc b) :=
  after_of_writes_sub hostOps (V0 m d) (forall_writes_sub_of_map rfl) hb

theorem V3_arg (d : Dev nD) {b : Ref sig .tc} (h18 : b ≠ main_v18) (h17 : b ≠ main_v17)
    (hb : b ∉ ([main_v0, main_v1, main_v2, main_v3, main_v4, main_v5, main_v6, main_v7, main_v8, main_v9, main_v10, main_cst, main_v11, main_v12,
      main_v13, main_v14, main_v15, main_v16] : List (Ref sig .tc))) : V3 m d (Proc.devRef .tc b) = m (d, Proc.devRef .tc b) :=
  (unary_result_ne _ _ _ _ _ _ h18).trans ((Function.update_of_ne (devRef_ne_of_ne h17) _ _).trans (V1_arg m d hb))

theorem V3_out (d : Dev nD) : V3 m d r' = out m d :=
  (unary_result _ _ _ _ _ _).trans (congrArg _ (Function.update_self _ _ _))

abbrev FIN (d : Dev nD) : sProp 𝕄 :=
  iprop((xLoc d ↦{fullShare} m (xLoc d)) ∗ (aLoc1 d ↦{fullShare} m (aLoc1 d)) ∗ (aLoc2 d ↦{fullShare} m (aLoc2 d)) ∗ rLoc d ↦{fullShare} out m d)

theorem held_fin (d : Dev nD) :
    (held (T d) (tcRefs τ sig) (V3 m d) : sProp 𝕄) = iprop(FIN m d ∗ held (T d) (tcRefs τ sig \ R4) (V3 m d)) := by
  rw [held_sub_split _ R4_sub]
  congr 1
  unfold held R4
  iterate 3 rw [SparseCore.bigSep_insert' (by decide)]
  rw [bigSep_singleton, V3_out, V3_arg m d (b := main_arg0) (by decide) (by decide) (by decide),
    V3_arg m d (b := main_arg1) (by decide) (by decide) (by decide), V3_arg m d (b := main_arg2) (by decide) (by decide) (by decide)]

abbrev Pm := P (F := F) (fun d => V1 m d a0') (fun d => V1 m d l') (fun d => V1 m d d') (fun d => V1 m d o')

theorem hostOps_sub : ∀ op ∈ (hostOps : List (HloOp τ sig (Elt F))), op.bufs ⊆ tcRefs τ sig :=
  List.forall_iff_forall_mem.mp (by simp only [List.Forall, unary_bufs_sub, reshape_bufs_sub, binary_bufs_sub, nary_bufs_sub, nullary_bufs_sub, and_self])
theorem hostOps_fresh : ∀ op ∈ (hostOps : List (HloOp τ sig (Elt F))), op.fresh = ∅ :=
  List.forall_iff_forall_mem.mp (forall_fresh_of_map rfl)

/-! ## @main on the TensorCore -/

theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_split]
  iintro ⟨#Hctx, Hst, ⟨Hb, Hheld, Hts, -⟩, -⟩
  iapply (wp_seq 𝒱 none Set.univ d (tcRefs τ sig) _ hostOps hostOps_sub hostOps_fresh (V0 m d)) $$ [Hb Hheld]
  · isplitl [Hb]; · iexact Hb
    iexact Hheld
  iintro ⟨Hb, Hheld⟩
  ihave Hh := (show (held (d.tc : Thread nD τ) (tcRefs τ sig) (after hostOps (V0 m d)) : sProp 𝕄) ⊢ _ from Entails.of_eq (held_call (F := F) m d)) $$ Hheld
  icases Hh with ⟨Hcall, Hrest⟩
  rw [wp_bind]
  iapply ((K (F := F)).wp_run (D (F := F)) 𝒱 (EH := EH) (P := Pm m) κ d 0) $$ [Hst Hcall Hrest Hb Hts]
  isplitr; · iexact Hctx
  isplitl [Hst]; · iexact Hst
  isplitl [Hcall]; · rw [st0_eq]; iexact Hcall
  iintro ⟨Hst, Hdn⟩
  ihave Hcall := (Entails.of_eq (dn0_eq (F := F) (fun d => V1 m d a0') (fun d => V1 m d l') (fun d => V1 m d d') (fun d => V1 m d o') d)) $$ Hdn
  iapply (wp_hlo_within 𝒱 (SparseCore.T d) none Set.univ (op := opLast) (S := tcRefs τ sig) (unary_bufs_sub _ _ _ _ _) (V := V2 m d)) $$ [Hb Hcall Hrest]
  · isplitl [Hb]; · iexact Hb
    rw [held_back]
    isplitl [Hcall]; · iexact Hcall
    iexact Hrest
  iintro ⟨Hb, Hheld⟩
  ihave Hh := (show (held (SparseCore.T d) (tcRefs τ sig) ((opLast (F := F)).result (V2 m d)) : sProp 𝕄) ⊢ _ from Entails.of_eq (held_fin (F := F) m d)) $$ Hheld
  icases Hh with ⟨Hfin, -⟩
  rw [wp_ret]; imodintro
  isplitl [Hst]; · iexact Hst
  isplitl [Hfin]; · iexact Hfin
  isplitl [Hb] <;> iassumption

/-! ## What the final memory says -/

/-- The claim about device `d`'s arrays. -/
def ends (d : Dev nD) (f : (ℓ : Loc nD τ sig) → Buf (Elt F) ℓ) : Prop :=
  f (rLoc d) = out m d ∧ f (xLoc d) = m (xLoc d) ∧ f (aLoc1 d) = m (aLoc1 d) ∧ f (aLoc2 d) = m (aLoc2 d)

/-- A whole array held at contents `f` beside the state's own resource: the memory has `f` there. -/
theorem read_back (s' : Phys nD τ sig (Elt F)) {ℓ : Loc nD τ sig} (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜ends m d s'.mem.mem⌝ : sProp 𝕄) := by
  iintro ⟨⟨Hx, H1, H2, Hr⟩, HSI⟩
  ihave H := (read_back s' (m (xLoc d))) $$ [HSI Hx]
  · isplitl [HSI] <;> iassumption
  icases H with ⟨%hx, HSI⟩
  ihave H := (read_back s' (m (aLoc1 d))) $$ [HSI H1]
  · isplitl [HSI] <;> iassumption
  icases H with ⟨%h1, HSI⟩
  ihave H := (read_back s' (m (aLoc2 d))) $$ [HSI H2]
  · isplitl [HSI] <;> iassumption
  icases H with ⟨%h2, HSI⟩
  ihave H := (read_back s' (out m d)) $$ [HSI Hr]
  · isplitl [HSI] <;> iassumption
  icases H with ⟨%hr, -⟩
  ipureintro; exact ⟨hr, hx, h1, h2⟩

/-! ## The run -/

/-- Every device's result and arguments, and every semaphore counter at zero. -/
def QC : PUnit × MemSt nD τ sig (Elt F) → Prop := fun r => (∀ c : Dev nD, ends m c r.2.mem) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _ _ facts)
    (fun q _ => match q with | 0 => SparseCore.Cfg.VecSplit.of_plain (vecSplit _ _ _ _))
    m ρ main (fun _ => iprop(emp)) (FIN m) (u₀ (F := F)) (sep_elim_left.trans (hu₀ _ _ _ _)) (hmain m ρ) (fun d s' => ends m d s'.mem.mem) (hfin m) (QC m)
    (fun _ h hz => ⟨h, hz⟩)

end Cert.Proof.Main

end
-- ==== Proof.Tables.lean ====
/-
  The two tables read at an index: the location table holds -1 and then the row's nine boundaries, the increment table holds the
  last value, the way from it to the first, and the eight steps between neighbours; each repeated over the sixteen lanes.
-/
module

public import proofs.«01_k».proof.Proof.Main
public import Idealize.ShloMosaic.Lib.Pointwise

@[expose] public section

noncomputable section

namespace Cert.Proof.Tables

open Cert.KernelIdeal Cert.KernelIdeal.Gen
open Cert.Proof.Main
open Idealize.ShloMosaic Idealize.ShloMosaic.StableHlo

variable {F : FTy → Type} [FloatOps F]

abbrev locTab (a : FVec F S8x9 .f32) : FVec F S8x10x16 .f32 :=
  broadcastInDim S8x10x16 ![0, 1, 2] bcast_S8x10x1_S8x10x16_0_1_2 (broadcastInDim S8x10x1 ![0, 1] bcast_S8x10_S8x10x1_0_1
    (concatenate S8x10 1 [⟨S8x1, broadcastInDim S8x1 ![] bcast_S_S8x1 (constant S_ .f32 0xBF800000#32)⟩, ⟨S8x9, a⟩] concatenates_S8x1_S8x9_S8x10_d1))

/-- The row's values: its last, its first. -/
abbrev lastV (a : FVec F S8x9 .f32) : FVec F S8 .f32 := shapeCast S8 (extractStridedSlice S8x1 ![0, 8] a slices_S8x9_S8x1_0_8) shapeCasts_S8x1_S8
abbrev firstV (a : FVec F S8x9 .f32) : FVec F S8 .f32 := shapeCast S8 (extractStridedSlice S8x1 ![0, 0] a slices_S8x9_S8x1_0_0) shapeCasts_S8x1_S8

abbrev incTab (a : FVec F S8x9 .f32) : FVec F S8x10x16 .f32 :=
  broadcastInDim S8x10x16 ![0, 1, 2] bcast_S8x10x1_S8x10x16_0_1_2 (broadcastInDim S8x10x1 ![0, 1] bcast_S8x10_S8x10x1_0_1
    (concatenate S8x10 1 [⟨S8x1, broadcastInDim S8x1 ![0] bcast_S8_S8x1_0 (lastV a)⟩, ⟨S8x1, broadcastInDim S8x1 ![0] bcast_S8_S8x1_0 (subf (firstV a) (lastV a))⟩,
      ⟨S8x8, subf (extractStridedSlice S8x8 ![0, 1] a slices_S8x9_S8x8_0_1) (extractStridedSlice S8x8 ![0, 0] a slices_S8x9_S8x8_0_0)⟩] concatenates_S8x1_S8x1_S8x8_S8x10_d1))

variable (m : (ℓ : Loc nD τ sig) → Buf (Elt F) ℓ)

theorem V1_loc (d : Dev nD) : V1 m d l' = locTab (F := F) (m (aLoc1 d)) := by
  unfold V1 l' hostOps
  after_results_simp
  rfl

theorem V1_inc (d : Dev nD) : V1 m d d' = incTab (F := F) (m (aLoc2 d)) := by
  unfold V1 d' hostOps
  after_results_simp
  rfl

/-! ## At an index -/

theorem locTab_zero (a : FVec F S8x9 .f32) (s : Fin 8) (n : Fin 16) : locTab a (ix3 s 0 n) = FloatOps.ofBits .f32 0xBF800000#32 := by
  pointwise

theorem locTab_succ (a : FVec F S8x9 .f32) (s : Fin 8) (k : Fin 9) (n : Fin 16) : locTab a (ix3 s k.succ n) = a (ix2 s k) := by
  pointwise
  simp

theorem incTab_zero (a : FVec F S8x9 .f32) (s : Fin 8) (n : Fin 16) : incTab a (ix3 s 0 n) = a (ix2 s 8) := by
  pointwise

theorem incTab_one (a : FVec F S8x9 .f32) (s : Fin 8) (n : Fin 16) : incTab a (ix3 s 1 n) = FloatOps.subf (a (ix2 s 0)) (a (ix2 s 8)) := by
  pointwise

theorem incTab_step (a : FVec F S8x9 .f32) (s : Fin 8) (k : Fin 8) (n : Fin 16) :
    incTab a (ix3 s k.succ.succ n) = FloatOps.subf (a (ix2 s k.succ)) (a (ix2 s k.castSucc)) := by
  pointwise
  simp
  congr 3 <;> ext <;> simp <;> omega

end Cert.Proof.Tables

end
-- ==== Proof.Telescope.lean ====
/-
  The arithmetic of one element. The kernel adds the increments of the boundaries that a point has passed; the boundaries being
  in ascending order, the increments telescope to the value of the point's bin.
-/
module

public import proofs.«01_k».proof.Proof.Rows

@[expose] public section

noncomputable section

namespace Cert.Proof.Telescope

open Cert.Proof.Rows
open Idealize.ShloMosaic

/-- How many of the nine boundaries the point is past. -/
def passed (x : EReal) (l : Fin 9 → EReal) : ℕ := (Finset.univ.filter fun k => l k < x).card

theorem passed_le (x : EReal) (l : Fin 9 → EReal) : passed x l ≤ 9 := Finset.card_filter_le _ _

/-- The bin of a point: one less than the boundaries it has passed; of none, the last (index -1 counts from the end). -/
def bin (x : EReal) (l : Fin 9 → EReal) : Fin 9 :=
  ⟨if passed x l = 0 then 8 else passed x l - 1, by have := passed_le x l; split <;> omega⟩

/-- Boundaries in ascending order: the ones passed are the first ones. -/
theorem lt_iff_lt_passed (x : EReal) (l : Fin 9 → EReal) (hl : Monotone l) (k : Fin 9) : l k < x ↔ k.val < passed x l := by
  unfold passed
  constructor
  · intro h
    have hs : Finset.Iic k ⊆ Finset.univ.filter fun k => l k < x := fun i hi =>
      Finset.mem_filter.mpr ⟨Finset.mem_univ i, lt_of_le_of_lt (hl (Finset.mem_Iic.mp hi)) h⟩
    have := Finset.card_le_card hs
    rw [Fin.card_Iic] at this; omega
  · intro h
    by_contra hk
    have hs : (Finset.univ.filter fun k => l k < x) ⊆ Finset.Iio k := fun i hi => by
      rw [Finset.mem_Iio]
      by_contra hi'
      exact hk (lt_of_le_of_lt (hl (not_lt.mp hi')) (Finset.mem_filter.mp hi).2)
    have := Finset.card_le_card hs
    rw [Fin.card_Iio] at this; omega

/-- One term of real numbers, its comparison already decided. -/
theorem term_real (x l : Ideal .f32) (d a : ℝ) (p : Prop) [Decidable p] (h : (l : EReal) < x ↔ p) :
    term (F := Ideal) x l (d : EReal) (a : EReal) = ((if p then a + d else a : ℝ) : EReal) := by
  unfold term Scalar.select
  show (if Ideal.cmp .ogt x l = 1 then ((a : EReal) + (d : EReal)) else _) = _
  unfold Ideal.cmp
  by_cases hp : p
  · simp [hp, h.mpr hp]
  · simp [hp, mt h.mp hp]

/-- The ten terms of real numbers, the comparisons decided by a count: term `t` is added when `t ≤ c`. -/
theorem accAt_real (x : Ideal .f32) (lt dt : Fin 10 → Ideal .f32) (u : Fin 10 → ℝ) (c : ℕ)
    (h : ∀ t, (lt t : EReal) < x ↔ t.val ≤ c) (hd : ∀ t, dt t = ((u t : ℝ) : EReal)) (hc : c ≤ 9) :
    accAt (F := Ideal) x lt dt = ((∑ t : Fin 10, if t.val ≤ c then u t else 0 : ℝ) : EReal) := by
  have z : (Scalar.ofBits .f32 0x00000000#32 : Ideal .f32) = ((0 : ℝ) : EReal) := by
    show Ideal.ofBits .f32 0 = _
    simp [Ideal.ofBits, Ideal.ieee]
  unfold accAt
  rw [z]
  simp only [hd]
  simp only [term_real _ _ _ _ _ (h _)]
  rw [Ideal.addf_def, ← EReal.coe_add]
  congr 1
  clear h hd z
  interval_cases c <;> simp [Fin.sum_univ_succ] <;> ring

/-- The increments up to a count telescope. -/
theorem sum_steps (w : Fin 9 → ℝ) (u : Fin 10 → ℝ) (u0 : u 0 = w 8) (u1 : u 1 = w 0 - w 8)
    (us : ∀ k : Fin 8, u k.succ.succ = w k.succ - w k.castSucc) (c : ℕ) (hc : c ≤ 9) (b : Fin 9)
    (hb : b.val = if c = 0 then 8 else c - 1) : (∑ t : Fin 10, if t.val ≤ c then u t else 0) = w b := by
  have e0 := us 0
  have e1 := us 1
  have e2 := us 2
  have e3 := us 3
  have e4 := us 4
  have e5 := us 5
  have e6 := us 6
  have e7 := us 7
  obtain ⟨b, hlt⟩ := b
  replace hb : b = if c = 0 then 8 else c - 1 := hb
  subst hb
  clear us
  interval_cases c <;> simp [Fin.sum_univ_succ] at * <;> linarith

/-- The ten terms come to the value of the bin. -/
theorem accAt_bin (x : EReal) (l v : Fin 9 → EReal) (hx : -1 < x) (hl : Monotone l) (hv : ∀ k, ∃ r : ℝ, v k = r)
    (lt dt : Fin 10 → Ideal .f32) (lt0 : lt 0 = (-1 : EReal)) (lts : ∀ k : Fin 9, lt k.succ = l k)
    (dt0 : dt 0 = v 8) (dt1 : dt 1 = v 0 - v 8) (dts : ∀ k : Fin 8, dt k.succ.succ = v k.succ - v k.castSucc) :
    accAt (F := Ideal) x lt dt = v (bin x l) := by
  choose w hw using hv
  have hu (t : Fin 10) : ∃ r : ℝ, dt t = (r : EReal) := by
    refine Fin.cases ⟨w 8, dt0.trans (hw 8)⟩ (fun t => Fin.cases ⟨w 0 - w 8, ?_⟩ (fun k => ⟨w k.succ - w k.castSucc, ?_⟩) t) t
    · rw [EReal.coe_sub, ← hw, ← hw]; exact dt1
    · rw [EReal.coe_sub, ← hw, ← hw]; exact dts k
  choose u hu using hu
  have h (t : Fin 10) : (lt t : EReal) < x ↔ t.val ≤ passed x l := by
    refine Fin.cases ?_ (fun k => ?_) t
    · rw [lt0]; exact ⟨fun _ => Nat.zero_le _, fun _ => hx⟩
    · rw [lts, lt_iff_lt_passed x l hl k, Fin.val_succ]; exact Nat.lt_iff_add_one_le
  rw [accAt_real x lt dt u (passed x l) h hu (passed_le x l), hw (bin x l)]
  refine congrArg _ (sum_steps w u ?_ ?_ (fun k => ?_) (passed x l) (passed_le x l) (bin x l) rfl) <;> apply EReal.coe_injective
  · rw [← hu, ← hw]; exact dt0
  · rw [EReal.coe_sub, ← hu, ← hw, ← hw]; exact dt1
  · rw [EReal.coe_sub, ← hu, ← hw, ← hw]; exact dts k

end Cert.Proof.Telescope

end
-- ==== Proof.RefValue.lean ====
/-
  The reference read at an index: the count of boundaries passed, the column index made of it (no boundary passed: the last
  column), the range check that always holds, the column picked.
-/
module

public import proofs.«01_k».proof.Proof.Gen.ReferenceIdeal.Run
public import proofs.«01_k».proof.Proof.Telescope
public import Idealize.ShloMosaic.Lib.Pointwise
public import Idealize.ShloMosaic.Lib.IndicatorCount
public import Idealize.ShloMosaic.Lib.ReduceAll

@[expose] public section

noncomputable section

namespace Cert.Proof.RefValue

open Cert.ReferenceIdeal Cert.ReferenceIdeal.Gen
open Cert.Proof.Telescope
open Idealize.ShloMosaic Idealize.ShloMosaic.StableHlo

/-! ## The terms -/

/-- Whether each point is past each boundary. -/
abbrev past (x : FVec Ideal S2097152 .f32) (l : FVec Ideal S8x9 .f32) : IVec S8x2097152x9 1 :=
  cmpf .ogt (broadcastInDim S8x2097152x9 ![0, 1, 2] bcast_S1x2097152x1_S8x2097152x9_0_1_2 (broadcastInDim S1x2097152x1 ![1] bcast_S2097152_S1x2097152x1_1 x))
    (broadcastInDim S8x2097152x9 ![0, 1, 2] bcast_S8x1x9_S8x2097152x9_0_1_2 (broadcastInDim S8x1x9 ![0, 2] bcast_S8x9_S8x1x9_0_2 l))

/-- The boundaries passed, counted. -/
abbrev count (x : FVec Ideal S2097152 .f32) (l : FVec Ideal S8x9 .f32) : IVec S8x2097152 32 :=
  Host.reduce IntOp.addi (extui 32 (past x l) natLt_1_32) (constantI S_ 32 0#32) reducesTo_S8x2097152x9_S8x2097152_d2 h_S_

/-- One less than a count. -/
abbrev less (w : IVec S8x2097152 32) : IVec S8x2097152 32 := subi w (broadcastInDim S8x2097152 ![] bcast_S_S8x2097152 (constantI S_ 32 1#32))

/-- A negative index counts from the end. -/
abbrev wrap (w : IVec S8x2097152 32) : IVec S8x2097152x1 32 :=
  shapeCast _ (select (cmpi .slt w (broadcastInDim S8x2097152 ![] bcast_S_S8x2097152 (constantI S_ 32 0#32)))
    (addi w (broadcastInDim S8x2097152 ![] bcast_S_S8x2097152 (constantI S_ 32 9#32))) w) shapeCasts_S8x2097152_S8x2097152x1

/-- Whether an index is in range. -/
abbrev inRange (i : IVec S8x2097152x1 32) : IVec S8x2097152x1 1 :=
  andi (cmpi .sge i (broadcastInDim S8x2097152x1 ![] bcast_S_S8x2097152x1 (constantI S_ 32 0#32)))
    (cmpi .sle i (broadcastInDim S8x2097152x1 ![0, 1, 2] bcast_S1x1x1_S8x2097152x1_0_1_2 (broadcastInDim S1x1x1 ![2] bcast_S1_S1x1x1_2 (constantI S1 32 8#32))))

/-- The column picked, an index out of range giving the fill value. -/
abbrev pick (v : FVec Ideal S8x9 .f32) (i : IVec S8x2097152x1 32) : FVec Ideal S8x2097152 .f32 :=
  select (Host.reduce IntOp.andi (inRange i) (constantI S_ 1 1#1) reducesTo_S8x2097152x1_S8x2097152_d2 h_S_)
    (Host.gather gather_S8x9_S8x2097152x1_S8x2097152_n_1_0_0_1_2_11 v i) (broadcastInDim S8x2097152 ![] bcast_S_S8x2097152 (constant S_ .f32 0x7FC00000#32))

theorem res_eq (m : (ℓ : Loc nD τ sig) → Buf (Elt Ideal) ℓ) (c : Dev nD) :
    Value.res_out0 m c = broadcastInDim S8x2097152x1 ![0, 1] bcast_S8x2097152_S8x2097152x1_0_1
      (pick (m ((c.tc : Thread nD τ).loc main_arg2)) (wrap (less (count (m ((c.tc : Thread nD τ).loc main_arg0)) (m ((c.tc : Thread nD τ).loc main_arg1)))))) := by
  unfold Value.res_out0 Value.res_main_v10
  rfl

/-! ## At an index -/

theorem past_apply (x : FVec Ideal S2097152 .f32) (l : FVec Ideal S8x9 .f32) (s : Fin 8) (n : Fin 2097152) (k : Fin 9) :
    past x l (ix3 s n k) = BitVec.ofBool (decide ((l (ix2 s k) : EReal) < x (ix1 n))) := by
  pointwise

theorem red_last : S8x2097152x9.Reduces [2] S8x2097152 := by decide

theorem lift_eq (s : Fin 8) (n : Fin 2097152) (k : Fin 9) : red_last.lift (ix2 s n : S8x2097152.Idx) k = ix3 s n k := by
  funext a
  refine Fin.ext ?_
  match a with
  | ⟨0, _⟩ => rfl
  | ⟨1, _⟩ => rfl
  | ⟨2, _⟩ => rfl

theorem count_apply (x : FVec Ideal S2097152 .f32) (l : FVec Ideal S8x9 .f32) (s : Fin 8) (n : Fin 2097152) :
    count x l (ix2 s n) = BitVec.ofNat 32 (passed (x (ix1 n)) fun k => l (ix2 s k)) := by
  have e : (extui 32 (past x l) natLt_1_32 ∘ red_last.lift (ix2 s n : S8x2097152.Idx)) = fun k : Fin 9 => (past x l (ix3 s n k)).setWidth 32 :=
    funext fun k => congrArg (fun j => (past x l j).setWidth 32) (lift_eq s n k)
  unfold count
  rw [Host.reduce_eq_fold_single IntOp.addi _ _ _ red_last _ _, e]
  refine (IndicatorCount.fold_addi_setWidth_eq_card (w := 32) (fun k : Fin 9 => past x l (ix3 s n k)) Finset.univ).trans ?_
  unfold passed
  refine congrArg (BitVec.ofNat 32) (congrArg Finset.card (Finset.filter_congr fun k _ => ?_))
  rw [past_apply]
  by_cases h : (l (ix2 s k) : EReal) < x (ix1 n) <;> simp [h]

theorem less_apply (w : IVec S8x2097152 32) (j : S8x2097152.Idx) : less w j = w j - 1#32 := rfl

theorem wrap_apply (w : IVec S8x2097152 32) (s : Fin 8) (n : Fin 2097152) :
    wrap w (ix3 s n 0) = Scalar.select (IntOp.cmpi .slt (w (ix2 s n)) 0#32) (w (ix2 s n) + 9#32) (w (ix2 s n)) := by
  pointwise
  rfl

/-- The index is the bin. -/
theorem index_apply (x : FVec Ideal S2097152 .f32) (l : FVec Ideal S8x9 .f32) (s : Fin 8) (n : Fin 2097152) :
    wrap (less (count x l)) (ix3 s n 0) = BitVec.ofNat 32 (bin (x (ix1 n)) fun k => l (ix2 s k)).val := by
  rw [wrap_apply, less_apply, count_apply]
  have h := passed_le (x (ix1 n)) fun k => l (ix2 s k)
  show _ = BitVec.ofNat 32 (if (passed (x (ix1 n)) fun k => l (ix2 s k)) = 0 then 8 else (passed (x (ix1 n)) fun k => l (ix2 s k)) - 1)
  generalize (passed (x (ix1 n)) fun k => l (ix2 s k)) = c at h ⊢
  interval_cases c <;> decide

theorem inRange_apply (i : IVec S8x2097152x1 32) (j : S8x2097152x1.Idx) (b : Fin 9) (h : i j = BitVec.ofNat 32 b.val) : inRange i j = 1#1 := by
  show IntOp.andi (IntOp.cmpi .sge (i j) 0#32) (IntOp.cmpi .sle (i j) 8#32) = 1#1
  rw [h]
  clear h
  revert b; decide

/-- The dimension numbers of the reference's gather: along the columns, row by row. -/
abbrev gd : GatherDims S8x9 S8x2097152x1 S8x2097152 := gather_S8x9_S8x2097152x1_S8x2097152_n_1_0_0_1_2_11

theorem gather_apply (v : FVec Ideal S8x9 .f32) (i : IVec S8x2097152x1 32) (s : Fin 8) (n : Fin 2097152) :
    Host.gather gd v i (ix2 s n) = v (ix2 s ⟨min (i (ix3 s n 0)).toInt.toNat 8, by omega⟩) := by
  unfold Host.gather
  refine congrArg v (funext fun a => Fin.ext ?_)
  show gd.start (ix2 s n) i a + gd.batchCoord (ix2 s n) a + gd.offCoord (ix2 s n) a = _
  obtain rfl | rfl : a = 0 ∨ a = 1 := by
    match a with
    | ⟨0, _⟩ => exact .inl rfl
    | ⟨1, _⟩ => exact .inr rfl
  · have hb : (0 : Fin 2) ∈ gd.operandBatchingDims := List.mem_singleton.mpr rfl
    rw [GatherDims.start_batching _ _ _ _ hb, GatherDims.offCoord_eq_zero _ _ _ (fun h => ((GatherDims.mem_sKept _ _).mp h).2 hb)]
    unfold GatherDims.batchCoord
    rw [dif_pos hb]
    exact Nat.zero_add _
  · have hm : (1 : Fin 2) ∈ gd.startIndexMap := List.mem_singleton.mpr rfl
    rw [GatherDims.batchCoord_eq_zero _ _ _ (show (1 : Fin 2) ∉ gd.operandBatchingDims from by decide),
      GatherDims.offCoord_eq_zero _ _ _ (fun h => ((GatherDims.mem_sKept _ _).mp h).1 (List.mem_singleton.mpr rfl))]
    unfold GatherDims.start
    rw [dif_pos hm]
    have e : gd.siIdx (ix2 s n) ⟨List.idxOf (1 : Fin 2) gd.startIndexMap, List.idxOf_lt_length_iff.mpr hm⟩ = ix3 s n 0 := by
      funext b; refine Fin.ext ?_
      match b with
      | ⟨0, _⟩ => rfl
      | ⟨1, _⟩ => rfl
      | ⟨2, _⟩ => rfl
    exact congrArg (fun j => min (i j).toInt.toNat 8) e

/-- A column's number, read as a signed word and clamped, is itself. -/
theorem clamp_col (w : BitVec 32) (c : Fin 9) (h : w = BitVec.ofNat 32 c.val) : (⟨min w.toInt.toNat 8, by omega⟩ : Fin 9) = c := by
  subst h
  revert c; decide

/-- An index in range picks its column. -/
theorem pick_apply (v : FVec Ideal S8x9 .f32) (i : IVec S8x2097152x1 32) (s : Fin 8) (n : Fin 2097152) (b : Fin 8 → Fin 2097152 → Fin 9)
    (h : ∀ s n, i (ix3 s n 0) = BitVec.ofNat 32 (b s n).val) : pick v i (ix2 s n) = v (ix2 s (b s n)) := by
  have hr : Host.reduce IntOp.andi (inRange i) (constantI S_ 1 1#1) reducesTo_S8x2097152x1_S8x2097152_d2 h_S_ (ix2 s n) = 1#1 := by
    refine Host.reduce_andi_one _ _ _ _ _ rfl fun j => ?_
    idx_vars j
    obtain rfl : j2 = 0 := Subsingleton.elim _ _
    exact inRange_apply i _ _ (h j0 j1)
  show Scalar.select _ (Host.gather gd v i (ix2 s n)) _ = _
  rw [hr, gather_apply, clamp_col _ _ (h s n)]
  rfl

/-- The reference's result: the value of the point's bin. -/
theorem res_apply (x : FVec Ideal S2097152 .f32) (l v : FVec Ideal S8x9 .f32) (s : Fin 8) (n : Fin 2097152) :
    pick v (wrap (less (count x l))) (ix2 s n) = v (ix2 s (bin (x (ix1 n)) fun k => l (ix2 s k))) :=
  pick_apply v _ s n (fun s n => bin (x (ix1 n)) fun k => l (ix2 s k)) (index_apply x l)

end Cert.Proof.RefValue

end
-- ==== Proof.Value.lean ====
/-
  The kernel's result is the reference's: the precondition read at an index, and the two results, element by element, the value of
  the point's bin.
-/
module

public import proofs.«01_k».proof.Pre_binned
public import proofs.«01_k».proof.Proof.Tables
public import proofs.«01_k».proof.Proof.RefValue

@[expose] public section

noncomputable section

namespace Cert.Proof.Value

open Cert.Proof.Rows Cert.Proof.Pieces Cert.Proof.Launch Cert.Proof.Telescope Cert.Proof.Tables
open Idealize.ShloMosaic

/-- The shape relations the precondition's operations take. -/
theorem pre_facts : Cert.Pre_binned.Facts :=
  ⟨by decide, by decide, by decide, by decide⟩

/-! ## The constants and the precondition -/

theorem neg_one : Ideal.ofBits .f32 0xBF800000#32 = (-1 : EReal) := by
  rw [show (-1 : EReal) = ((-(1 : ℝ) : ℝ) : EReal) by rw [EReal.coe_neg, EReal.coe_one]]
  simp [Ideal.ofBits, Ideal.ieee, -EReal.coe_mul, -EReal.coe_neg]; norm_num

theorem infinity : Ideal.ofBits .f32 0x7F800000#32 = (⊤ : EReal) := by
  simp [Ideal.ofBits, Ideal.ieee]

/-- A comparison's bit that is one. -/
theorem of_bit {p : Prop} [Decidable p] (h : BitVec.ofBool (decide p) = 1#1) : p := by
  by_contra hp
  simp [hp] at h

abbrev Pts : Type := FVec Ideal Cert.Pre_binned.S2097152 .f32
abbrev Tab : Type := FVec Ideal Cert.Pre_binned.S8x9 .f32

section Pre
variable [Cert.Pre_binned.Facts] (x : Pts) (l v : Tab)

theorem pre_point (h : (Cert.Pre_binned.fn x l v).1 = fun _ => 1#1) (n : Fin 2097152) : (-1 : EReal) < x (ix1 n) := by
  have h := congrFun h (ix1 n)
  unfold Cert.Pre_binned.fn at h
  pointwise at h
  rw [neg_one] at h
  exact of_bit h

theorem pre_sorted (h : (Cert.Pre_binned.fn x l v).2.1 = fun _ => 1#1) (s : Fin 8) : Monotone fun k : Fin 9 => (l (ix2 s k) : EReal) := by
  refine Fin.monotone_iff_le_succ.mpr fun k => ?_
  have h := congrFun h (ix2 s k)
  unfold Cert.Pre_binned.fn at h
  pointwise at h
  have e : (⟨1 + k.val, by omega⟩ : Fin 9) = k.succ := Fin.ext (Nat.add_comm _ _)
  rw [e] at h
  exact of_bit h

theorem pre_finite (h : (Cert.Pre_binned.fn x l v).2.2 = fun _ => 1#1) (s : Fin 8) (k : Fin 9) : ∃ r : ℝ, (v (ix2 s k) : EReal) = r := by
  have h := congrFun h (ix2 s k)
  unfold Cert.Pre_binned.fn at h
  pointwise at h
  rw [infinity] at h
  have h : max (v (ix2 s k) : EReal) (-(v (ix2 s k))) < ⊤ := of_bit h
  have ht : (v (ix2 s k) : EReal) ≠ ⊤ := fun e => absurd h (by rw [e]; simp)
  have hb : (v (ix2 s k) : EReal) ≠ ⊥ := fun e => absurd h (by rw [e]; simp)
  exact ⟨EReal.toReal (v (ix2 s k)), (EReal.coe_toReal ht hb).symm⟩

end Pre

/-! ## The two results -/

/-- The kernel's sum at an element is the value of the point's bin. -/
theorem kernel_apply [Cert.Pre_binned.Facts] (x : Pts) (l v : Tab) (h1 : (Cert.Pre_binned.fn x l v).1 = fun _ => 1#1)
    (h2 : (Cert.Pre_binned.fn x l v).2.1 = fun _ => 1#1) (h3 : (Cert.Pre_binned.fn x l v).2.2 = fun _ => 1#1) (s : Fin 8) (n : Fin 2097152) :
    outV (F := Ideal) x (locTab l) (incTab v) (ix2 s n) = v (ix2 s (bin (x (ix1 n)) fun k => l (ix2 s k))) :=
  accAt_bin (x (ix1 n)) (fun k => l (ix2 s k)) (fun k => v (ix2 s k)) (pre_point x l v h1 n) (pre_sorted x l v h2 s) (pre_finite x l v h3 s) _ _
    ((locTab_zero _ _ _).trans neg_one) (fun k => locTab_succ _ _ k _) (incTab_zero _ _ _) (incTab_one _ _ _) (fun k => incTab_step _ _ k _)

section Whole
variable [Cert.Pre_binned.Facts] (m : (ℓ : Loc Cert.KernelIdeal.nD Cert.KernelIdeal.τ Cert.KernelIdeal.sig) → Buf (Elt Ideal) ℓ)

/-- The kernel's result and the reference's, from the same arguments. -/
theorem out_eq (c : Dev Cert.KernelIdeal.nD) (x : Pts) (l v : Tab) (h1 : (Cert.Pre_binned.fn x l v).1 = fun _ => 1#1)
    (h2 : (Cert.Pre_binned.fn x l v).2.1 = fun _ => 1#1) (h3 : (Cert.Pre_binned.fn x l v).2.2 = fun _ => 1#1)
    (hx : m (xLoc c) = x) (hl : m (Main.aLoc1 c) = l) (hv : m (Main.aLoc2 c) = v) :
    Main.out m c = broadcastInDim Cert.ReferenceIdeal.S8x2097152x1 ![0, 1] Cert.ReferenceIdeal.Gen.bcast_S8x2097152_S8x2097152x1_0_1
      (RefValue.pick v (RefValue.wrap (RefValue.less (RefValue.count x l)))) := by
  have e : Main.callOut m c = RefValue.pick v (RefValue.wrap (RefValue.less (RefValue.count x l))) := by
    unfold Main.callOut
    show outV (F := Ideal) (Main.V1 m c Main.a0') (Main.V1 m c Main.l') (Main.V1 m c Main.d') = _
    rw [V1_loc, V1_inc, hl, hv, show Main.V1 m c Main.a0' = x from (Main.V1_arg m c (by decide)).trans hx]
    funext j
    obtain ⟨s, n, rfl⟩ : ∃ (s : Fin 8) (n : Fin 2097152), j = (ix2 s n : Cert.KernelIdeal.S8x2097152.Idx) := ⟨j 0, j 1, eq_ix2 j⟩
    exact (kernel_apply x l v h1 h2 h3 s n).trans (RefValue.res_apply x l v s n).symm
  unfold Main.out
  rw [e]

end Whole

end Cert.Proof.Value

end
-- ==== Proof.lean ====
/-
  The claims about the piecewise-constant kernel, from the run of the program (Main) and the run of the reference.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Main
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel over machine floats: the same program text as its ideal, so the same run. -/
theorem frame_kernel : Cert.quiescent_Kernel := fun m ρ _ =>
  (θ_run Cert.KernelIdeal.defs _ _).mono (fun _ h => ⟨fun c => (h.1 c).2, h.2⟩) (Main.run_main (F := Bits) m ρ)

theorem frame_ideal : Cert.quiescent_KernelIdeal := fun m ρ _ =>
  (θ_run Cert.KernelIdeal.defs _ _).mono (fun _ h => ⟨fun c => (h.1 c).2, h.2⟩) (Main.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ideal_binned : Cert.quiescent_KernelIdeal_pre_binned (hPre_binned := Value.pre_facts) := fun m ρ _ => frame_ideal m ρ trivial

theorem frame_reference_binned : Cert.quiescent_ReferenceIdeal_pre_binned (hPre_binned := Value.pre_facts) := fun m ρ _ => frame_reference m ρ trivial

/-- Of points beyond -1, boundaries in ascending order and finite values, the two programs compute the same. -/
theorem algebraic : Cert.algebraic_KernelIdeal_ReferenceIdeal_pre_binned (hPre_binned := Value.pre_facts) := by
  intro m g m' g' hpre hargs
  refine ⟨fun c => Main.out m c, ?_, ?_⟩
  · exact (θ_run Cert.KernelIdeal.defs _ _).mono (fun _ h => h.1) (Main.run_main (F := Ideal) m g)
  · refine (θ_run Cert.ReferenceIdeal.defs _ _).mono (fun r h c => ⟨(h c).1.trans ?_, (h c).2⟩) (Cert.ReferenceIdeal.Value.run (F := Ideal) m' g')
    letI := Value.pre_facts
    exact (RefValue.res_eq m' c).trans (Value.out_eq m c _ _ _ (by rw [(hargs c).1, (hargs c).2.1, (hargs c).2.2]; exact (hpre c).1)
      (by rw [(hargs c).1, (hargs c).2.1, (hargs c).2.2]; exact (hpre c).2.1) (by rw [(hargs c).1, (hargs c).2.1, (hargs c).2.2]; exact (hpre c).2.2)
      (hargs c).1.symm (hargs c).2.1.symm (hargs c).2.2.symm).symm

theorem claim : Cert.Claim :=
  ⟨Cert.Kernel.Gen.facts, Cert.KernelIdeal.Gen.facts, Cert.ReferenceIdeal.Gen.facts, Value.pre_facts,
    frame_kernel, frame_ideal, frame_ideal_binned, frame_reference, frame_reference_binned, trivial, algebraic⟩

end Cert.Proof

end
